-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64x512 : Shape := ⟨3, ![2048, 64, 512]⟩
abbrev S64x512 : Shape := ⟨2, ![64, 512]⟩
abbrev S512x512 : Shape := ⟨2, ![512, 512]⟩
abbrev S512 : Shape := ⟨1, ![512]⟩
abbrev S1x512 : Shape := ⟨2, ![1, 512]⟩
abbrev S64x64x512 : Shape := ⟨3, ![64, 64, 512]⟩
abbrev S32x64x512 : Shape := ⟨3, ![32, 64, 512]⟩
abbrev S1x64x512 : Shape := ⟨3, ![1, 64, 512]⟩
abbrev S2x64x512 : Shape := ⟨3, ![2, 64, 512]⟩
abbrev S128x512 : Shape := ⟨2, ![128, 512]⟩

abbrev nBuf : Space → Nat
  | .hbm => 15
  | .vmem => 15
  | .smem => 0
  | _ => 0

abbrev bufTy : (tb : Table) → Fin (tcTables nBuf tb) → BufTy
  | .hbm, ⟨0, _⟩ => ⟨S2048x64x512, .f32⟩
  | .hbm, ⟨1, _⟩ => ⟨S64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S2048x64x512, .f32⟩
  | .local _ .vmem, ⟨0, _⟩ => ⟨S64x64x512, .f32⟩
  | .local _ .vmem, ⟨1, _⟩ => ⟨S64x64x512, .f32⟩
  | .local _ .vmem, ⟨2, _⟩ => ⟨S64x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S64x64x512, .f32⟩
  | .local _ .vmem, ⟨9, _⟩ => ⟨S64x64x512, .f32⟩
  | .local _ .vmem, ⟨10, _⟩ => ⟨S64x512, .f32⟩
  | .local _ .vmem, ⟨11, _⟩ => ⟨S32x64x512, .f32⟩
  | .local _ .vmem, ⟨12, _⟩ => ⟨S32x64x512, .f32⟩
  | .local _ .vmem, ⟨13, _⟩ => ⟨S32x64x512, .f32⟩
  | .local _ .vmem, ⟨14, _⟩ => ⟨S32x64x512, .f32⟩
  | _, _ => ⟨S2048x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x64x512 : Shape := ⟨3, ![2048, 64, 512]⟩
abbrev S64x512 : Shape := ⟨2, ![64, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩
abbrev S1x64x512 : Shape := ⟨3, ![1, 64, 512]⟩

abbrev nBuf : Space → Nat
  | .hbm => 43
  | .vmem => 0
  | .smem => 0
  | _ => 0

abbrev bufTy : (tb : Table) → Fin (tcTables nBuf tb) → BufTy
  | .hbm, ⟨0, _⟩ => ⟨S2048x64x512, .f32⟩
  | .hbm, ⟨1, _⟩ => ⟨S64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S2048x64x512, .f32⟩
  | .hbm, ⟨9, _⟩ => ⟨S1x1x512, .f32⟩
  | .hbm, ⟨10, _⟩ => ⟨S2048x64x512, .f32⟩
  | .hbm, ⟨11, _⟩ => ⟨S2048x64x512, .f32⟩
  | .hbm, ⟨12, _⟩ => ⟨S1x1x512, .f32⟩
  | .hbm, ⟨13, _⟩ => ⟨S2048x64x512, .f32⟩
  | .hbm, ⟨14, _⟩ => ⟨S2048x64x512, .f32⟩
  | .hbm, ⟨15, _⟩ => ⟨S_, .f32⟩
  | .hbm, ⟨16, _⟩ => ⟨S2048x64x512, .f32⟩
  | .hbm, ⟨17, _⟩ => ⟨S_, .i32⟩
  | .hbm, ⟨18, _⟩ => ⟨S2048x64x512, .f32⟩
  | .hbm, ⟨19, _⟩ => ⟨S512x512, .f32⟩
  | .hbm, ⟨20, _⟩ => ⟨S_, .i32⟩
  | .hbm, ⟨21, _⟩ => ⟨S64x512, .f32⟩
  | .hbm, ⟨22, _⟩ => ⟨S2048x64x512, .f32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S1x64x512, .f32⟩
  | .hbm, ⟨28, _⟩ => ⟨S64x512, .f32⟩
  | .hbm, ⟨29, _⟩ => ⟨S512x512, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S1x64x512, .f32⟩
  | .hbm, ⟨34, _⟩ => ⟨S_, .i32⟩
  | .hbm, ⟨35, _⟩ => ⟨S_, .i32⟩
  | .hbm, ⟨36, _⟩ => ⟨S2048x64x512, .f32⟩
  | .hbm, ⟨37, _⟩ => ⟨S_, .i32⟩
  | .hbm, ⟨38, _⟩ => ⟨S_, .i32⟩
  | .hbm, ⟨39, _⟩ => ⟨S2048x64x512, .f32⟩
  | .hbm, ⟨40, _⟩ => ⟨S1x1x512, .f32⟩
  | .hbm, ⟨41, _⟩ => ⟨S2048x64x512, .f32⟩
  | .hbm, ⟨42, _⟩ => ⟨S2048x64x512, .f32⟩
  | _, _ => ⟨S2048x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_while0c_c_4 : Ref sig .tc := ⟨.hbm, 23, rfl⟩
abbrev main_while0c_v13 : Ref sig .tc := ⟨.hbm, 24, rfl⟩
abbrev main_while0b_call0_c : Ref sig .tc := ⟨.hbm, 25, rfl⟩
abbrev main_while0b_call0_c_0 : Ref sig .tc := ⟨.hbm, 26, rfl⟩
abbrev main_while0b_call0_v0 : Ref sig .tc := ⟨.hbm, 27, rfl⟩
abbrev main_while0b_v13 : Ref sig .tc := ⟨.hbm, 28, rfl⟩
abbrev main_while0b_v14 : Ref sig .tc := ⟨.hbm, 29, rfl⟩
abbrev main_while0b_v15 : Ref sig .tc := ⟨.hbm, 30, rfl⟩
abbrev main_while0b_v16 : Ref sig .tc := ⟨.hbm, 31, rfl⟩
abbrev main_while0b_v17 : Ref sig .tc := ⟨.hbm, 32, rfl⟩
abbrev main_while0b_call1_v0 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_v18 : Ref sig .tc := ⟨.hbm, 36, rfl⟩
abbrev main_while0b_c_4 : Ref sig .tc := ⟨.hbm, 37, rfl⟩
abbrev main_while0b_v19 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩

abbrev nD : Nat := 1
abbrev τ : Topo := Topo.v7x

variable {F : FTy → Type} [FloatOps F]

abbrev main_while0_count : Scf.Loop 32 := ⟨0#32, 2048#32, 1#32⟩
-- ==== Proof.Loop.lean ====
/-
  The kernel's body as a loop. The printed body is two runs of thirty-two time steps, written out one after another and
  cut by count alone. Here the same body is written as it is meant: a run is sixteen repetitions of a PAIR of time steps,
  the first of the pair also projecting two rows of the input ahead, the second also putting out two rows of hidden
  states of the half before. Everything is stated over any buffers of the right shapes, so that the two printed programs
  share it.
-/
module

public import Idealize.ShloMosaic.Lib.Exec
public import Idealize.ShloMosaic.Lib.Tactic
public import Idealize.ShloMosaic.Lib.Memref

@[expose] public section

noncomputable section

namespace Cert.Proof

open Idealize.ShloMosaic Idealize.SL.Sem

/-! ## Shapes -/

/-- A batch of hidden states, … -/
abbrev Bat : Shape := ⟨2, ![64, 512]⟩
/-- a weight matrix, … -/
abbrev Wt : Shape := ⟨2, ![512, 512]⟩
/-- a bias as one row, … -/
abbrev Bia : Shape := ⟨2, ![1, 512]⟩
/-- a block of sixty-four time steps, … -/
abbrev Blk : Shape := ⟨3, ![64, 64, 512]⟩
/-- half of one, … -/
abbrev Hlf : Shape := ⟨3, ![32, 64, 512]⟩
/-- one time step of it, … -/
abbrev Row : Shape := ⟨3, ![1, 64, 512]⟩
/-- two time steps of it, … -/
abbrev Chk : Shape := ⟨3, ![2, 64, 512]⟩
/-- and the same two as one matrix. -/
abbrev Mat : Shape := ⟨2, ![128, 512]⟩

/-- The product of a batch by a weight matrix. -/
def dotB : DotDims Bat Wt Bat where
  lhsContracting := [1]
  rhsContracting := [0]
  lhsNonContracting := [0]
  rhsNonContracting := [1]
  lhsBatch := []
  rhsBatch := []
  wf := by decide

/-- The product of two time steps' batches by a weight matrix. -/
def dotM : DotDims Mat Wt Mat where
  lhsContracting := [1]
  rhsContracting := [0]
  lhsNonContracting := [0]
  rhsNonContracting := [1]
  lhsBatch := []
  rhsBatch := []
  wf := by decide

/-! ## Rectangles -/

/-- Row `i` of a half is inside it. -/
theorem row_inb {i : ℕ} (hi : i < 32) : ∀ a, (![i, 0, 0] : Fin 3 → ℕ) a + Row.size a ≤ Hlf.size a := by
  intro a; fin_cases a
  · show i + 1 ≤ 32; omega
  · show 0 + 64 ≤ 64; omega
  · show 0 + 512 ≤ 512; omega

/-- Rows `i` and `i + 1` of a half are inside it. -/
theorem chk_inb {i : ℕ} (hi : i + 1 < 32) : ∀ a, (![i, 0, 0] : Fin 3 → ℕ) a + Chk.size a ≤ Hlf.size a := by
  intro a; fin_cases a
  · show i + 2 ≤ 32; omega
  · show 0 + 64 ≤ 64; omega
  · show 0 + 512 ≤ 512; omega

/-- Rows `i` and `i + 1` of a block are inside it. -/
theorem blk_inb {i : ℕ} (hi : i + 1 < 64) : ∀ a, (![i, 0, 0] : Fin 3 → ℕ) a + Chk.size a ≤ Blk.size a := by
  intro a; fin_cases a
  · show i + 2 ≤ 64; omega
  · show 0 + 64 ≤ 64; omega
  · show 0 + 512 ≤ 512; omega

/-- Row `i` of a half. -/
abbrev rowR (i : ℕ) (hi : i < 32) : Rect Hlf := Rect.unit (s := Hlf) ![i, 0, 0] Row.size (row_inb hi)
/-- Rows `i` and `i + 1` of a half. -/
abbrev chkR (i : ℕ) (hi : i + 1 < 32) : Rect Hlf := Rect.unit (s := Hlf) ![i, 0, 0] Chk.size (chk_inb hi)
/-- Rows `i` and `i + 1` of a block. -/
abbrev blkR (i : ℕ) (hi : i + 1 < 64) : Rect Blk := Rect.unit (s := Blk) ![i, 0, 0] Chk.size (blk_inb hi)
/-- The whole of a matrix. -/
abbrev allR {m n : ℕ} : Rect (⟨2, ![m, n]⟩ : Shape) :=
  Rect.unit (s := ⟨2, ![m, n]⟩) ![0, 0] (⟨2, ![m, n]⟩ : Shape).size (by intro a; fin_cases a <;> exact (Nat.zero_add _).le)

/-- A row has elements, … -/
theorem row_pos : 0 < Row.numel := by decide
/-- and so have two rows. -/
theorem chk_pos : 0 < Chk.numel := by decide

/-! ## Values -/

variable {F : FTy → Type} [FloatOps F]

/-- A time step before its activation: the projected input, plus the hidden state by the recurrent weights. -/
def preact (w : FVec F Wt .f32) (h : FVec F Bat .f32) (x : Vec F Row .f32) : FVec F Bat .f32 :=
  addf (shapeCast Bat x (by decide)) (matmul dotB none h w (constant Bat .f32 0x00000000#32))

/-- A time step: the next hidden state. -/
def cell (w : FVec F Wt .f32) (h : FVec F Bat .f32) (x : Vec F Row .f32) : FVec F Bat .f32 := tanh (preact w h x)

/-- Two time steps through an affine layer. -/
def affine (w : Vec F Wt .f32) (b : Vec F Bia .f32) (x : Vec F Chk .f32) : FVec F Chk .f32 :=
  shapeCast Chk
    (addf (matmul dotM none (shapeCast Mat x (by decide)) (shapeCast Wt w (by decide)) (constant Mat .f32 0x00000000#32))
      (broadcastTo Mat (shapeCast Bia b (by decide)) (by decide)))
    (by decide)

/-- A hidden state as one row of a half. -/
def asRow (h : FVec F Bat .f32) : FVec F Row .f32 := shapeCast Row h (by decide)

/-! ## The program -/

variable {nD : ℕ} {τ : Topo} {sig : RefSig} {Λ : Labels}

/-- A kernel's body. -/
abbrev Body (nD : ℕ) (τ : Topo) (sig : RefSig) (Λ : Labels) (F : FTy → Type) (α : Type) : Type _ :=
  Prog (TpuEff nD τ sig (Elt F) Λ .tc) α

/-- Read a rectangle of a buffer in vector memory, and go on with what is read. -/
abbrev get {s : Shape} (m : Memref sig .tc .vmem s .f32) (r : Rect s) (hr : 0 < r.shape.numel)
    (k : (r.shape.Idx → Elt F .f32) → Body nD τ sig Λ F PUnit) : Body nD τ sig Λ F PUnit :=
  .op (.load m r.toLoadRect (View.loadsAt_vmem hr)) k

/-- Write a rectangle of a buffer in vector memory, and go on. -/
abbrev put {s : Shape} (m : Memref sig .tc .vmem s .f32) (r : Rect s) (hr : 0 < r.shape.numel) (v : r.shape.Idx → Elt F .f32)
    (k : PUnit → Body nD τ sig Λ F PUnit) : Body nD τ sig Λ F PUnit :=
  .op (.store m r v Finset.univ (View.stores_vmem_bits_univ hr rfl) (.inl rfl)) k

/-- The operands one run of thirty-two time steps reads and writes: the block of inputs and the block of outputs with the
    offset of the half it handles, the weights and biases, the projected inputs it reads and those it writes, the
    hidden states it writes and those it puts out. -/
structure Args (sig : RefSig) where
  /-- the block of inputs -/
  x : Memref sig .tc .vmem Blk .f32
  /-- the input weights -/
  wi : Memref sig .tc .vmem Wt .f32
  /-- the output weights -/
  wo : Memref sig .tc .vmem Wt .f32
  /-- the bias of the hidden state -/
  bh : Memref sig .tc .vmem Bia .f32
  /-- the bias of the output -/
  bo : Memref sig .tc .vmem Bia .f32
  /-- the block of outputs -/
  y : Memref sig .tc .vmem Blk .f32
  /-- the projected inputs read -/
  xr : Memref sig .tc .vmem Hlf .f32
  /-- the projected inputs written -/
  xw : Memref sig .tc .vmem Hlf .f32
  /-- the hidden states written -/
  hw : Memref sig .tc .vmem Hlf .f32
  /-- the hidden states put out -/
  hr : Memref sig .tc .vmem Hlf .f32

/-- The `p`-th pair of time steps of a run at offset `o`, from hidden state `h`; then `k` at the hidden state reached. -/
def pair (A : Args sig) (o : ℕ) (ho : o ≤ 32) (w : FVec F Wt .f32) (p : ℕ) (hp : p < 16) (h : FVec F Bat .f32)
    (k : FVec F Bat .f32 → Body nD τ sig Λ F PUnit) : Body nD τ sig Λ F PUnit :=
  get A.xr (rowR (2 * p) (by omega)) row_pos fun x₀ =>
  get A.x (blkR (o + 2 * p) (by omega)) chk_pos fun u =>
  get A.wi allR (by decide) fun wi =>
  get A.bh allR (by decide) fun bh =>
  get A.xw (chkR (2 * p) (by omega)) chk_pos fun _ =>
  put A.xw (chkR (2 * p) (by omega)) chk_pos (shapeCast Chk (affine wi bh u) (by decide)) fun _ =>
  get A.hw (rowR (2 * p) (by omega)) row_pos fun _ =>
  put A.hw (rowR (2 * p) (by omega)) row_pos (asRow (cell w h x₀)) fun _ =>
  get A.xr (rowR (2 * p + 1) (by omega)) row_pos fun x₁ =>
  get A.hr (chkR (2 * p) (by omega)) chk_pos fun g =>
  get A.wo allR (by decide) fun wo =>
  get A.bo allR (by decide) fun bo =>
  get A.y (blkR (o + 2 * p) (by omega)) chk_pos fun _ =>
  put A.y (blkR (o + 2 * p) (by omega)) chk_pos (affine wo bo g) fun _ =>
  get A.hw (rowR (2 * p + 1) (by omega)) row_pos fun _ =>
  put A.hw (rowR (2 * p + 1) (by omega)) row_pos (asRow (cell w (cell w h x₀) x₁)) fun _ =>
  k (cell w (cell w h x₀) x₁)

/-- `m` pairs of a run, from the `p`-th on. -/
def run (A : Args sig) (o : ℕ) (ho : o ≤ 32) (w : FVec F Wt .f32) : (m p : ℕ) → p + m ≤ 16 → FVec F Bat .f32 →
    (FVec F Bat .f32 → Body nD τ sig Λ F PUnit) → Body nD τ sig Λ F PUnit
  | 0, _, _, h, k => k h
  | m + 1, p, hp, h, k => pair A o ho w p (by omega) h fun h => run A o ho w m (p + 1) (by omega) h k

/-- The kernel's body at the point whose coordinate is the word `k`: a run over the block's odd half with the
    projections of the even half, then a run over the even half with the projections of the odd half. -/
def body (k : BitVec 32) (a1 : Memref sig .tc .vmem Blk .f32) (a2 : Memref sig .tc .vmem Bat .f32)
    (a3 a4 a5 : Memref sig .tc .vmem Wt .f32) (a6 a7 : Memref sig .tc .vmem Bia .f32) (a8 : Memref sig .tc .vmem Blk .f32)
    (a9 : Memref sig .tc .vmem Bat .f32) (a10 a11 a12 a13 : Memref sig .tc .vmem Hlf .f32) : Body nD τ sig Λ F PUnit :=
  get a4 allR (by decide) fun w =>
  get a9 allR (by decide) fun h =>
  run ⟨a1, a3, a5, a6, a7, a8, a11, a10, a13, a12⟩ 0 (by decide) (shapeCast (s := Wt) Wt w (by decide)) 16 0 le_rfl h fun h =>
  get a2 allR (by decide) fun h₀ =>
  run ⟨a1, a3, a5, a6, a7, a8, a10, a11, a12, a13⟩ 32 (by decide) (shapeCast (s := Wt) Wt w (by decide)) 16 0 le_rfl
    (Scalar.select (Scalar.cmpi .eq k 0#32) h₀ h) fun h =>
  get a9 allR (by decide) fun _ =>
  put a9 allR (by decide) (shapeCast Bat h (by decide)) .ret

end Cert.Proof

end
-- ==== Proof.Wp.lean ====
/-
  What one run of the body does to the buffers it holds. Two rules read and write rows of a held buffer; by them a pair
  of time steps, by induction a run of sixteen pairs, and from two runs the whole body, each takes held buffers to held
  buffers whose contents are given outright.
-/
module

public import proofs.«01_k».proof.Proof.Loop
public import Idealize.ShloMosaic.Rules.Step
public import Idealize.ShloMosaic.Lib.Pointwise.Index
public import Idealize.ShloMosaic.Lib.Pipeline.Value

@[expose] public section

noncomputable section

namespace Cert.Proof

open Idealize.ShloMosaic Idealize.ShloMosaic.TcCoe Idealize.ShloMosaic.Tactic Idealize.SL Idealize.SL.RA Idealize.SL.BI Idealize.SL.Sem
open Idealize.SL.BI.BIBase Idealize.SL.BI.Laws Idealize.SL.ProofMode Idealize.ShloMosaic.Rounds
open scoped Idealize.SL.BI

/-! ## Contents -/

section Contents

variable {α : Type}

/-- Rows `i`, `i + 1`, … of contents with `n` rows, as contents with `k` rows. -/
def rows {n k : ℕ} [NeZero n] (X : (⟨3, ![n, 64, 512]⟩ : Shape).Idx → α) (i : ℕ) : (⟨3, ![k, 64, 512]⟩ : Shape).Idx → α :=
  fun u => X (ix3 (Fin.ofNat n (i + (u 0).val)) (u 1) (u 2))

/-- New contents on the rows from `a` up to `b`, old contents on the others. -/
def mix {n : ℕ} (a b : ℕ) (N X : (⟨3, ![n, 64, 512]⟩ : Shape).Idx → α) : (⟨3, ![n, 64, 512]⟩ : Shape).Idx → α :=
  fun j => if a ≤ (j 0).val ∧ (j 0).val < b then N j else X j

/-- No new row. -/
theorem mix_none {n : ℕ} (a : ℕ) (N X : (⟨3, ![n, 64, 512]⟩ : Shape).Idx → α) : mix a a N X = X :=
  funext fun j => if_neg (by omega)

/-- All rows new. -/
theorem mix_all {n : ℕ} (N X : (⟨3, ![n, 64, 512]⟩ : Shape).Idx → α) : mix 0 n N X = N :=
  funext fun j => if_pos ⟨Nat.zero_le _, (j 0).isLt⟩

/-- Where a rectangle of rows puts its elements. -/
theorem emb_rows {n k i : ℕ} [NeZero n]
    (hb : ∀ a, (![i, 0, 0] : Fin 3 → ℕ) a + (⟨3, ![k, 64, 512]⟩ : Shape).size a ≤ (⟨3, ![n, 64, 512]⟩ : Shape).size a)
    (u : (⟨3, ![k, 64, 512]⟩ : Shape).Idx) :
    (Rect.unit (s := ⟨3, ![n, 64, 512]⟩) ![i, 0, 0] (⟨3, ![k, 64, 512]⟩ : Shape).size hb).emb u
      = ix3 (Fin.ofNat n (i + (u 0).val)) (u 1) (u 2) := by
  have h0 : i + k ≤ n := hb 0
  have hu : (u 0).val < k := (u 0).isLt
  funext a
  fin_cases a <;> apply Fin.ext
  · show i + 1 * (u 0).val = (i + (u 0).val) % n
    rw [Nat.mod_eq_of_lt (by omega), one_mul]
  · show 0 + 1 * (u 1).val = (u 1).val
    omega
  · show 0 + 1 * (u 2).val = (u 2).val
    omega

/-- An element outside a rectangle of rows is at another row. -/
theorem row_of_not_mem {n k i : ℕ}
    (hb : ∀ a, (![i, 0, 0] : Fin 3 → ℕ) a + (⟨3, ![k, 64, 512]⟩ : Shape).size a ≤ (⟨3, ![n, 64, 512]⟩ : Shape).size a)
    (j : (⟨3, ![n, 64, 512]⟩ : Shape).Idx) (h0 : i ≤ (j 0).val) (h1 : (j 0).val < i + k) :
    ∃ u, (Rect.unit (s := ⟨3, ![n, 64, 512]⟩) ![i, 0, 0] (⟨3, ![k, 64, 512]⟩ : Shape).size hb).emb u = j := by
  refine ⟨ix3 (⟨(j 0).val - i, by omega⟩ : Fin k) (j 1 : Fin 64) (j 2 : Fin 512), ?_⟩
  funext a
  fin_cases a <;> apply Fin.ext
  · show i + 1 * ((j 0).val - i) = (j 0).val
    omega
  · show 0 + 1 * (j 1).val = (j 1).val
    omega
  · show 0 + 1 * (j 2).val = (j 2).val
    omega

/-- A row of contents given row by row. -/
theorem rows_one {n i : ℕ} [NeZero n] (hi : i < n) (g : ℕ → Row.Idx → α) :
    rows (n := n) (k := 1) (fun j => g (j 0).val (ix3 0 (j 1) (j 2))) i = g i := by
  funext u
  have h0 : (u 0).val = 0 := by have : (u 0).val < 1 := (u 0).isLt; omega
  have hm : (Fin.ofNat n (i + (u 0).val)).val = i := by
    show (i + (u 0).val) % n = i
    rw [h0]; exact Nat.mod_eq_of_lt hi
  show g (Fin.ofNat n (i + (u 0).val)).val _ = _
  rw [hm]
  refine congrArg (g i) (funext fun a => ?_)
  fin_cases a
  · exact Fin.ext h0.symm
  · rfl
  · rfl

/-- Two rows of contents given two rows at a time, from row `o` on. -/
theorem rows_two {n o p : ℕ} [NeZero n] (hi : o + 2 * p + 1 < n) (g : ℕ → Chk.Idx → α) :
    rows (n := n) (k := 2) (fun j => g (((j 0).val - o) / 2) (ix3 (Fin.ofNat 2 ((j 0).val - o)) (j 1) (j 2))) (o + 2 * p) = g p := by
  funext u
  have h0 : (u 0).val < 2 := (u 0).isLt
  have hm : (Fin.ofNat n (o + 2 * p + (u 0).val)).val = o + 2 * p + (u 0).val := Nat.mod_eq_of_lt (by omega)
  show g (((Fin.ofNat n (o + 2 * p + (u 0).val)).val - o) / 2) (ix3 (Fin.ofNat 2 ((Fin.ofNat n (o + 2 * p + (u 0).val)).val - o)) _ _) = _
  rw [hm, show (o + 2 * p + (u 0).val - o) / 2 = p by omega]
  refine congrArg (g p) (funext fun a => ?_)
  fin_cases a
  · refine Fin.ext ?_
    show (o + 2 * p + (u 0).val - o) % 2 = (u 0).val
    omega
  · rfl
  · rfl

end Contents

/-! ## What a run computes -/

section Values

variable {F : FTy → Type} [FloatOps F]

/-- The hidden states of a run over projected inputs `x`, from `h`. -/
def hseq (w : FVec F Wt .f32) (x : Vec F Hlf .f32) (h : FVec F Bat .f32) : ℕ → FVec F Bat .f32
  | 0 => h
  | i + 1 => cell w (hseq w x h i) (rows x i)

/-- The hidden states a run stores: row `i` is the state after step `i`. -/
def hids (w : FVec F Wt .f32) (x : Vec F Hlf .f32) (h : FVec F Bat .f32) : Vec F Hlf .f32 :=
  fun j => asRow (hseq w x h ((j 0).val + 1)) (ix3 0 (j 1) (j 2))

/-- The projections a run stores: those of the rows of the block from row `o` on. -/
def projs (o : ℕ) (w : Vec F Wt .f32) (b : Vec F Bia .f32) (x : Vec F Blk .f32) : Vec F Hlf .f32 :=
  fun j => affine w b (rows x (o + 2 * (((j 0).val - 0) / 2))) (ix3 (Fin.ofNat 2 ((j 0).val - 0)) (j 1) (j 2))

/-- The outputs a run stores, from row `o` of the block on. -/
def outs (o : ℕ) (w : Vec F Wt .f32) (b : Vec F Bia .f32) (x : Vec F Hlf .f32) : Vec F Blk .f32 :=
  fun j => affine w b (rows x (2 * (((j 0).val - o) / 2))) (ix3 (Fin.ofNat 2 ((j 0).val - o)) (j 1) (j 2))

/-- A row of the hidden states a run stores. -/
theorem rows_hids (w : FVec F Wt .f32) (x : Vec F Hlf .f32) (h : FVec F Bat .f32) {i : ℕ} (hi : i < 32) :
    rows (n := 32) (k := 1) (hids w x h) i = asRow (hseq w x h (i + 1)) :=
  rows_one hi fun i => asRow (hseq w x h (i + 1))

/-- Two rows of the projections a run stores. -/
theorem rows_projs (o : ℕ) (w : Vec F Wt .f32) (b : Vec F Bia .f32) (x : Vec F Blk .f32) {p : ℕ} (hp : p < 16) :
    rows (n := 32) (k := 2) (projs o w b x) (2 * p) = affine w b (rows x (o + 2 * p)) := by
  have := rows_two (n := 32) (o := 0) (p := p) (by omega) fun p => affine w b (rows x (o + 2 * p))
  rwa [Nat.zero_add] at this

/-- Two rows of the outputs a run stores. -/
theorem rows_outs (o : ℕ) (ho : o ≤ 32) (w : Vec F Wt .f32) (b : Vec F Bia .f32) (x : Vec F Hlf .f32) {p : ℕ} (hp : p < 16) :
    rows (n := 64) (k := 2) (outs o w b x) (o + 2 * p) = affine w b (rows x (2 * p)) :=
  rows_two (by omega) fun p => affine w b (rows x (2 * p))

end Values

/-! ## Rules -/

section Rules

variable {F : FTy → Type} [FloatOps F] {nD : ℕ} {τ : Topo} {sig : RefSig} {Λ : Labels}
variable {U : Type} [URA U] {defs : Defs nD τ sig (Elt F) Λ} (𝒱 : Variants) (c : Dev nD)

local notation "𝕄" => MT nD τ sig Unit (Elt F) ℕ U ℕ

/-- The buffer's elements are held, with contents `X`. -/
abbrev at_ {s : Shape} (m : Memref sig .tc .vmem s .f32) (X : s.Idx → Elt F .f32) : sProp 𝕄 :=
  owns (c : Thread nD τ) m fullShare X

/-- The program from here on meets `Q`. -/
abbrev runs (defs : Defs nD τ sig (Elt F) Λ) (𝒱 : Variants) (c : Dev nD) (Q : sProp 𝕄)
    (e : Body nD τ sig Λ F PUnit) : sProp 𝕄 :=
  wp frame (wpE defs 𝒱 (c : Thread nD τ) none) Set.univ e fun _ => Q

/-- Reading a rectangle of a held buffer. -/
theorem runs_get {Q : sProp 𝕄} {s : Shape} {m : Memref sig .tc .vmem s .f32} {X : s.Idx → Elt F .f32} {r : Rect s} {hr : 0 < r.shape.numel}
    {k : (r.shape.Idx → Elt F .f32) → Body nD τ sig Λ F PUnit} :
    (at_ c m X : sProp 𝕄) ⊢ iprop((at_ c m X -∗ runs defs 𝒱 c Q (k fun x => X (r.emb x))) -∗ runs defs 𝒱 c Q (get m r hr k)) := by
  unfold at_ owns
  iintro ⟨%f, %hf, H⟩ Hk
  iapply (wp_load_rect (defs := defs) 𝒱 (c : Thread nD τ) none (Γ := .empty) Set.univ (m := m) (r := r) (k := k) (f := f) (q := fullShare)
    (hl := View.loadsAt_vmem hr) (S := m.view.set) (View.set_slice_subset _ r)) $$ H
  iintro H
  have e : (m.access r).read (Elt F) f = fun x => X (r.emb x) := by subst hf; rfl
  rw [e]
  iapply Hk
  iexists f
  isplitr
  · ipureintro; exact hf
  · iexact H

/-- Writing a rectangle of a held buffer: what is held after agrees with what is written on the rectangle and with what
    was held before off it. -/
theorem runs_put {Q : sProp 𝕄} {s : Shape} {m : Memref sig .tc .vmem s .f32} {X X' : s.Idx → Elt F .f32} {r : Rect s} {hr : 0 < r.shape.numel}
    {v : r.shape.Idx → Elt F .f32} {k : PUnit → Body nD τ sig Λ F PUnit}
    (hin : ∀ x, X' (r.emb x) = v x) (hout : ∀ j, (∀ x, r.emb x ≠ j) → X' j = X j) :
    (at_ c m X : sProp 𝕄) ⊢ iprop((at_ c m X' -∗ runs defs 𝒱 c Q (k ⟨⟩)) -∗ runs defs 𝒱 c Q (put m r hr v k)) := by
  unfold at_ owns
  iintro ⟨%f, %hf, H⟩ Hk
  iapply (wp_store (defs := defs) 𝒱 (c : Thread nD τ) none (Γ := .empty) Set.univ (m := m) (r := r) (k := k) (f := f) (w := v)
    (hx := View.stores_vmem_bits_univ hr rfl) (hm := .inl rfl) (S := m.view.set) (((m.access r).setOn_subset_set Finset.univ).trans (View.set_slice_subset _ r))) $$ H
  iintro H
  iapply Hk
  iexists (m.access r).write (Elt F) f v Finset.univ
  isplitr
  · ipureintro
    funext j
    by_cases hj : ∃ x, r.emb x = j
    · obtain ⟨x, rfl⟩ := hj
      rw [hin]; exact View.read_slice_write_emb r f v (Finset.mem_univ x)
    · push Not at hj
      rw [hout j hj, ← hf]
      exact View.read_slice_write_of_not_mem r f v _ (by simpa using hj)
  · iexact H

/-- Reading some rows of a held buffer of rows. -/
theorem runs_get_rows {Q : sProp 𝕄} {n l i : ℕ} [NeZero n] {m : Memref sig .tc .vmem ⟨3, ![n, 64, 512]⟩ .f32}
    {X : (⟨3, ![n, 64, 512]⟩ : Shape).Idx → Elt F .f32}
    {hb : ∀ a, (![i, 0, 0] : Fin 3 → ℕ) a + (⟨3, ![l, 64, 512]⟩ : Shape).size a ≤ (⟨3, ![n, 64, 512]⟩ : Shape).size a}
    {hr : 0 < (⟨3, ![l, 64, 512]⟩ : Shape).numel}
    {k : ((⟨3, ![l, 64, 512]⟩ : Shape).Idx → Elt F .f32) → Body nD τ sig Λ F PUnit} :
    (at_ c m X : sProp 𝕄) ⊢ iprop((at_ c m X -∗ runs defs 𝒱 c Q (k (rows X i)))
      -∗ runs defs 𝒱 c Q (get m (Rect.unit (s := ⟨3, ![n, 64, 512]⟩) ![i, 0, 0] (⟨3, ![l, 64, 512]⟩ : Shape).size hb) hr k)) := by
  have e : (fun x => X ((Rect.unit (s := ⟨3, ![n, 64, 512]⟩) ![i, 0, 0] (⟨3, ![l, 64, 512]⟩ : Shape).size hb).emb x)) = rows X i :=
    funext fun u => congrArg X (emb_rows hb u)
  have h := runs_get (defs := defs) 𝒱 c (Q := Q) (m := m) (X := X) (hr := hr) (k := k)
    (r := Rect.unit (s := ⟨3, ![n, 64, 512]⟩) ![i, 0, 0] (⟨3, ![l, 64, 512]⟩ : Shape).size hb)
  rwa [e] at h

/-- Reading a held matrix whole. -/
theorem runs_get_all {Q : sProp 𝕄} {n l : ℕ} {m : Memref sig .tc .vmem ⟨2, ![n, l]⟩ .f32}
    {X : (⟨2, ![n, l]⟩ : Shape).Idx → Elt F .f32} {hr : 0 < (⟨2, ![n, l]⟩ : Shape).numel}
    {k : ((⟨2, ![n, l]⟩ : Shape).Idx → Elt F .f32) → Body nD τ sig Λ F PUnit} :
    (at_ c m X : sProp 𝕄) ⊢ iprop((at_ c m X -∗ runs defs 𝒱 c Q (k X)) -∗ runs defs 𝒱 c Q (get m allR hr k)) := by
  have e : (fun x => X ((allR (m := n) (n := l)).emb x)) = X := by
    funext u
    refine congrArg X (funext fun a => Fin.ext ?_)
    fin_cases a
    · show 0 + 1 * (u 0).val = (u 0).val
      omega
    · show 0 + 1 * (u 1).val = (u 1).val
      omega
  have h := runs_get (defs := defs) 𝒱 c (Q := Q) (m := m) (X := X) (hr := hr) (k := k) (r := allR)
  rwa [e] at h

/-- Writing a held matrix whole. -/
theorem runs_put_all {Q : sProp 𝕄} {n l : ℕ} {m : Memref sig .tc .vmem ⟨2, ![n, l]⟩ .f32}
    {X v : (⟨2, ![n, l]⟩ : Shape).Idx → Elt F .f32} {hr : 0 < (⟨2, ![n, l]⟩ : Shape).numel} {k : PUnit → Body nD τ sig Λ F PUnit} :
    (at_ c m X : sProp 𝕄) ⊢ iprop((at_ c m v -∗ runs defs 𝒱 c Q (k ⟨⟩)) -∗ runs defs 𝒱 c Q (put m allR hr v k)) := by
  have e : ∀ u, (allR (m := n) (n := l)).emb u = u := by
    intro u
    refine funext fun a => Fin.ext ?_
    fin_cases a
    · show 0 + 1 * (u 0).val = (u 0).val
      omega
    · show 0 + 1 * (u 1).val = (u 1).val
      omega
  exact runs_put (U := U) 𝒱 c (fun x => congrArg v (e x)) fun j hj => absurd (e j) (hj j)

/-- Writing the next rows of a held buffer of rows, of which those from `a` on were new already. -/
theorem runs_put_rows {Q : sProp 𝕄} {n l a i i' : ℕ} [NeZero n] {m : Memref sig .tc .vmem ⟨3, ![n, 64, 512]⟩ .f32}
    {N X : (⟨3, ![n, 64, 512]⟩ : Shape).Idx → Elt F .f32}
    {hb : ∀ a, (![i, 0, 0] : Fin 3 → ℕ) a + (⟨3, ![l, 64, 512]⟩ : Shape).size a ≤ (⟨3, ![n, 64, 512]⟩ : Shape).size a}
    {hr : 0 < (⟨3, ![l, 64, 512]⟩ : Shape).numel}
    {v : (⟨3, ![l, 64, 512]⟩ : Shape).Idx → Elt F .f32} {k : PUnit → Body nD τ sig Λ F PUnit}
    (ha : a ≤ i) (hi : i' = i + l) (hv : v = rows N i) :
    (at_ c m (mix a i N X) : sProp 𝕄) ⊢ iprop((at_ c m (mix a i' N X) -∗ runs defs 𝒱 c Q (k ⟨⟩))
      -∗ runs defs 𝒱 c Q (put m (Rect.unit (s := ⟨3, ![n, 64, 512]⟩) ![i, 0, 0] (⟨3, ![l, 64, 512]⟩ : Shape).size hb) hr v k)) := by
  subst hi
  refine runs_put (U := U) 𝒱 c ?_ ?_
  · intro x
    have h0 : i + l ≤ n := hb 0
    have hx : (x 0).val < l := (x 0).isLt
    have hm : (Fin.ofNat n (i + (x 0).val)).val = i + (x 0).val := Nat.mod_eq_of_lt (by omega)
    rw [emb_rows hb x]
    unfold mix
    rw [if_pos (by show a ≤ (Fin.ofNat n _).val ∧ (Fin.ofNat n _).val < _; rw [hm]; omega), hv]
    rfl
  · intro j hj
    unfold mix
    have : ¬ (i ≤ (j 0).val ∧ (j 0).val < i + l) := fun h => by
      obtain ⟨u, hu⟩ := row_of_not_mem hb j h.1 h.2
      exact hj u hu
    by_cases h : a ≤ (j 0).val ∧ (j 0).val < i
    · rw [if_pos h, if_pos (by omega)]
    · rw [if_neg h, if_neg (by omega)]

/-! ## A pair, and a run -/

/-- The contents a run reads and does not change. -/
structure Ins (F : FTy → Type) where
  /-- the block of inputs -/
  x : Vec F Blk .f32
  /-- the input weights -/
  wi : Vec F Wt .f32
  /-- the output weights -/
  wo : Vec F Wt .f32
  /-- the bias of the hidden state -/
  bh : Vec F Bia .f32
  /-- the bias of the output -/
  bo : Vec F Bia .f32
  /-- the projected inputs read -/
  xr : Vec F Hlf .f32
  /-- the hidden states put out -/
  hr : Vec F Hlf .f32

/-- What a run holds: the buffers it reads, and those it writes at given contents. -/
def held (A : Args sig) (V : Ins F) (y : Vec F Blk .f32) (xw hw : Vec F Hlf .f32) : sProp 𝕄 :=
  iprop(at_ c A.x V.x ∗ at_ c A.wi V.wi ∗ at_ c A.wo V.wo ∗ at_ c A.bh V.bh ∗ at_ c A.bo V.bo ∗ at_ c A.xr V.xr ∗ at_ c A.hr V.hr
    ∗ at_ c A.y y ∗ at_ c A.xw xw ∗ at_ c A.hw hw)

/-- What a run holds after its first `p` pairs. -/
def heldAt (A : Args sig) (o : ℕ) (w : FVec F Wt .f32) (h : FVec F Bat .f32) (V : Ins F) (y : Vec F Blk .f32) (xw hw : Vec F Hlf .f32)
    (p : ℕ) : sProp 𝕄 :=
  held c A V (mix o (o + 2 * p) (outs o V.wo V.bo V.hr) y) (mix 0 (2 * p) (projs o V.wi V.bh V.x) xw)
    (mix 0 (2 * p) (hids w V.xr h) hw)

/-- One pair of time steps. -/
theorem runs_pair {Q : sProp 𝕄} (A : Args sig) (o : ℕ) (ho : o ≤ 32) (w : FVec F Wt .f32) (h : FVec F Bat .f32) (V : Ins F)
    (y : Vec F Blk .f32) (xw hw : Vec F Hlf .f32) (p : ℕ) (hp : p < 16) {k : FVec F Bat .f32 → Body nD τ sig Λ F PUnit} :
    (heldAt c A o w h V y xw hw p : sProp 𝕄)
      ⊢ iprop((heldAt c A o w h V y xw hw (p + 1) -∗ runs defs 𝒱 c Q (k (hseq w V.xr h (2 * (p + 1)))))
        -∗ runs defs 𝒱 c Q (pair A o ho w p hp (hseq w V.xr h (2 * p)) k)) := by
  unfold heldAt held pair
  iintro ⟨Hx, Hwi, Hwo, Hbh, Hbo, Hxr, Hhr, Hy, Hxw, Hhw⟩ Hk
  iapply (runs_get_rows 𝒱 c (m := A.xr) (X := V.xr)) $$ Hxr; iintro Hxr
  iapply (runs_get_rows 𝒱 c (m := A.x) (X := V.x)) $$ Hx; iintro Hx
  iapply (runs_get_all 𝒱 c (m := A.wi) (X := V.wi)) $$ Hwi; iintro Hwi
  iapply (runs_get_all 𝒱 c (m := A.bh) (X := V.bh)) $$ Hbh; iintro Hbh
  iapply (runs_get_rows 𝒱 c (m := A.xw)) $$ Hxw; iintro Hxw
  iapply (runs_put_rows 𝒱 c (m := A.xw) (i' := 2 * (p + 1)) (Nat.zero_le _) (by omega)
    ((shapeCast_self _ _).trans (rows_projs o V.wi V.bh V.x hp).symm)) $$ Hxw; iintro Hxw
  iapply (runs_get_rows 𝒱 c (m := A.hw)) $$ Hhw; iintro Hhw
  iapply (runs_put_rows 𝒱 c (m := A.hw) (i' := 2 * p + 1) (Nat.zero_le _) (by omega)
    (rows_hids w V.xr h (by omega)).symm) $$ Hhw; iintro Hhw
  iapply (runs_get_rows 𝒱 c (m := A.xr) (X := V.xr)) $$ Hxr; iintro Hxr
  iapply (runs_get_rows 𝒱 c (m := A.hr) (X := V.hr)) $$ Hhr; iintro Hhr
  iapply (runs_get_all 𝒱 c (m := A.wo) (X := V.wo)) $$ Hwo; iintro Hwo
  iapply (runs_get_all 𝒱 c (m := A.bo) (X := V.bo)) $$ Hbo; iintro Hbo
  iapply (runs_get_rows 𝒱 c (m := A.y)) $$ Hy; iintro Hy
  iapply (runs_put_rows 𝒱 c (m := A.y) (i' := o + 2 * (p + 1)) (Nat.le_add_right _ _) (by omega)
    (rows_outs o ho V.wo V.bo V.hr hp).symm) $$ Hy; iintro Hy
  iapply (runs_get_rows 𝒱 c (m := A.hw)) $$ Hhw; iintro Hhw
  iapply (runs_put_rows 𝒱 c (m := A.hw) (i' := 2 * (p + 1)) (Nat.zero_le _) (by omega)
    (rows_hids w V.xr h (i := 2 * p + 1) (by omega)).symm) $$ Hhw; iintro Hhw
  iapply Hk
  isplitl [Hx]; · iexact Hx
  isplitl [Hwi]; · iexact Hwi
  isplitl [Hwo]; · iexact Hwo
  isplitl [Hbh]; · iexact Hbh
  isplitl [Hbo]; · iexact Hbo
  isplitl [Hxr]; · iexact Hxr
  isplitl [Hhr]; · iexact Hhr
  isplitl [Hy]; · iexact Hy
  isplitl [Hxw]; · iexact Hxw
  iexact Hhw

/-- The pairs from the `p`-th to the last. -/
theorem runs_from {Q : sProp 𝕄} (A : Args sig) (o : ℕ) (ho : o ≤ 32) (w : FVec F Wt .f32) (h : FVec F Bat .f32) (V : Ins F)
    (y : Vec F Blk .f32) (xw hw : Vec F Hlf .f32) {k : FVec F Bat .f32 → Body nD τ sig Λ F PUnit} :
    ∀ (m p : ℕ) (hp : p + m ≤ 16), p + m = 16 → ((heldAt c A o w h V y xw hw p : sProp 𝕄)
      ⊢ iprop((heldAt c A o w h V y xw hw 16 -∗ runs defs 𝒱 c Q (k (hseq w V.xr h 32)))
        -∗ runs defs 𝒱 c Q (run A o ho w m p hp (hseq w V.xr h (2 * p)) k)))
  | 0, p, _, e => by
    obtain rfl : p = 16 := e
    iintro H Hk
    iapply Hk
    iexact H
  | m + 1, p, hp, e => by
    iintro H Hk
    unfold run
    iapply (runs_pair 𝒱 c A o ho w h V y xw hw p _) $$ H
    iintro H
    iapply (runs_from A o ho w h V y xw hw m (p + 1) _ (by omega)) $$ H
    iexact Hk

/-- A run: the half of the block of outputs at its offset, and all of the projections and hidden states it writes, are
    as computed. -/
theorem runs_run {Q : sProp 𝕄} (A : Args sig) (o : ℕ) (ho : o ≤ 32) (w : FVec F Wt .f32) (h : FVec F Bat .f32) (V : Ins F)
    (y : Vec F Blk .f32) (xw hw : Vec F Hlf .f32) {k : FVec F Bat .f32 → Body nD τ sig Λ F PUnit} :
    (held c A V y xw hw : sProp 𝕄)
      ⊢ iprop((held c A V (mix o (o + 32) (outs o V.wo V.bo V.hr) y) (projs o V.wi V.bh V.x) (hids w V.xr h)
          -∗ runs defs 𝒱 c Q (k (hseq w V.xr h 32)))
        -∗ runs defs 𝒱 c Q (run A o ho w 16 0 le_rfl h k)) := by
  have := runs_from (defs := defs) (Q := Q) (k := k) 𝒱 c A o ho w h V y xw hw 16 0 le_rfl rfl
  unfold heldAt at this
  simpa only [Nat.mul_zero, Nat.add_zero, mix_none, Nat.reduceMul, mix_all, hseq] using this

end Rules

end Cert.Proof

end
-- ==== Proof.Triple.lean ====
/-
  What the body does at a point: from held buffers to held buffers, every content after it given outright by the contents
  before it.
-/
module

public import proofs.«01_k».proof.Proof.Wp

@[expose] public section

noncomputable section

namespace Cert.Proof

open Idealize.ShloMosaic Idealize.ShloMosaic.TcCoe Idealize.ShloMosaic.Tactic Idealize.SL Idealize.SL.RA Idealize.SL.BI Idealize.SL.Sem
open Idealize.SL.BI.BIBase Idealize.SL.BI.Laws Idealize.SL.ProofMode Idealize.ShloMosaic.Rounds
open scoped Idealize.SL.BI

variable {F : FTy → Type} [FloatOps F]

/-- The contents the body reads through the windows. -/
structure Ops (F : FTy → Type) where
  /-- the block of inputs -/
  x : Vec F Blk .f32
  /-- the first hidden state -/
  h : Vec F Bat .f32
  /-- the input weights -/
  wi : Vec F Wt .f32
  /-- the recurrent weights -/
  wh : Vec F Wt .f32
  /-- the output weights -/
  wo : Vec F Wt .f32
  /-- the bias of the hidden state -/
  bh : Vec F Bia .f32
  /-- the bias of the output -/
  bo : Vec F Bia .f32

/-- The contents carried from point to point. -/
structure Scr (F : FTy → Type) where
  /-- the hidden state reached -/
  hs : Vec F Bat .f32
  /-- the projected inputs of the even half -/
  xe : Vec F Hlf .f32
  /-- the projected inputs of the odd half -/
  xo : Vec F Hlf .f32
  /-- the hidden states of the even half -/
  he : Vec F Hlf .f32
  /-- the hidden states of the odd half -/
  ho : Vec F Hlf .f32

/-- The state the second run starts from: the first hidden state at the first point, else the one the first run reached. -/
def start (k : BitVec 32) (I : Ops F) (S : Scr F) : FVec F Bat .f32 :=
  Scalar.select (Scalar.cmpi .eq k 0#32) I.h (hseq I.wh S.xo S.hs 32)

/-- What is carried on. -/
def next (k : BitVec 32) (I : Ops F) (S : Scr F) : Scr F where
  hs := hseq I.wh (projs 0 I.wi I.bh I.x) (start k I S) 32
  xe := projs 0 I.wi I.bh I.x
  xo := projs 32 I.wi I.bh I.x
  he := hids I.wh (projs 0 I.wi I.bh I.x) (start k I S)
  ho := hids I.wh S.xo S.hs

/-- The block of outputs. -/
def outBlk (I : Ops F) (S : Scr F) : Vec F Blk .f32 :=
  mix 32 64 (outs 32 I.wo I.bo (hids I.wh S.xo S.hs)) (outs 0 I.wo I.bo S.he)

/-- Two halves of new rows. -/
theorem mix_halves {α : Type} (N M X : Blk.Idx → α) : mix 32 (32 + 32) N (mix 0 (0 + 32) M X) = mix 32 64 N M := by
  funext j
  have hj : (j 0).val < 64 := (j 0).isLt
  unfold mix
  by_cases h : 32 ≤ (j 0).val
  · rw [if_pos (by omega), if_pos (by omega)]
  · rw [if_neg (by omega), if_pos (by omega), if_neg (by omega)]

variable {nD : ℕ} {τ : Topo} {sig : RefSig} {Λ : Labels}
variable {U : Type} [URA U] {defs : Defs nD τ sig (Elt F) Λ} (𝒱 : Variants) (c : Dev nD)

local notation "𝕄" => MT nD τ sig Unit (Elt F) ℕ U ℕ

/-- The body, at the point whose coordinate is the word `k`. -/
theorem runs_body {Q : sProp 𝕄} (k : BitVec 32) (a1 : Memref sig .tc .vmem Blk .f32) (a2 : Memref sig .tc .vmem Bat .f32)
    (a3 a4 a5 : Memref sig .tc .vmem Wt .f32) (a6 a7 : Memref sig .tc .vmem Bia .f32) (a8 : Memref sig .tc .vmem Blk .f32)
    (a9 : Memref sig .tc .vmem Bat .f32) (a10 a11 a12 a13 : Memref sig .tc .vmem Hlf .f32)
    (I : Ops F) (y : Vec F Blk .f32) (S : Scr F) :
    (iprop((at_ c a1 I.x ∗ at_ c a2 I.h ∗ at_ c a3 I.wi ∗ at_ c a4 I.wh ∗ at_ c a5 I.wo ∗ at_ c a6 I.bh ∗ at_ c a7 I.bo
      ∗ at_ c a8 y) ∗ at_ c a9 S.hs ∗ at_ c a10 S.xe ∗ at_ c a11 S.xo ∗ at_ c a12 S.he ∗ at_ c a13 S.ho) : sProp 𝕄)
    ⊢ iprop((((at_ c a1 I.x ∗ at_ c a2 I.h ∗ at_ c a3 I.wi ∗ at_ c a4 I.wh ∗ at_ c a5 I.wo ∗ at_ c a6 I.bh ∗ at_ c a7 I.bo
          ∗ at_ c a8 (outBlk I S)) ∗ at_ c a9 (next k I S).hs ∗ at_ c a10 (next k I S).xe ∗ at_ c a11 (next k I S).xo
          ∗ at_ c a12 (next k I S).he ∗ at_ c a13 (next k I S).ho) -∗ Q)
        -∗ runs defs 𝒱 c Q (body k a1 a2 a3 a4 a5 a6 a7 a8 a9 a10 a11 a12 a13)) := by
  unfold body
  iintro ⟨⟨H1, H2, H3, H4, H5, H6, H7, H8⟩, H9, H10, H11, H12, H13⟩ Hk
  iapply (runs_get_all 𝒱 c (m := a4) (X := I.wh)) $$ H4; iintro H4
  iapply (runs_get_all 𝒱 c (m := a9) (X := S.hs)) $$ H9; iintro H9
  rw [shapeCast_self]
  iapply (runs_run (defs := defs) 𝒱 c ⟨a1, a3, a5, a6, a7, a8, a11, a10, a13, a12⟩ 0 _ I.wh S.hs
    ⟨I.x, I.wi, I.wo, I.bh, I.bo, S.xo, S.he⟩ y S.xe S.ho) $$ [H1 H3 H5 H6 H7 H8 H10 H11 H12 H13]
  · unfold held
    isplitl [H1]; · iexact H1
    isplitl [H3]; · iexact H3
    isplitl [H5]; · iexact H5
    isplitl [H6]; · iexact H6
    isplitl [H7]; · iexact H7
    isplitl [H11]; · iexact H11
    isplitl [H12]; · iexact H12
    isplitl [H8]; · iexact H8
    isplitl [H10]; · iexact H10
    iexact H13
  unfold held
  iintro ⟨H1, H3, H5, H6, H7, H11, H12, H8, H10, H13⟩
  iapply (runs_get_all 𝒱 c (m := a2) (X := I.h)) $$ H2; iintro H2
  iapply (runs_run (defs := defs) 𝒱 c ⟨a1, a3, a5, a6, a7, a8, a10, a11, a12, a13⟩ 32 _ I.wh (start k I S)
    ⟨I.x, I.wi, I.wo, I.bh, I.bo, projs 0 I.wi I.bh I.x, hids I.wh S.xo S.hs⟩ (mix 0 (0 + 32) (outs 0 I.wo I.bo S.he) y) S.xo S.he)
    $$ [H1 H3 H5 H6 H7 H8 H10 H11 H12 H13]
  · unfold held
    isplitl [H1]; · iexact H1
    isplitl [H3]; · iexact H3
    isplitl [H5]; · iexact H5
    isplitl [H6]; · iexact H6
    isplitl [H7]; · iexact H7
    isplitl [H10]; · iexact H10
    isplitl [H13]; · iexact H13
    isplitl [H8]; · iexact H8
    isplitl [H11]; · iexact H11
    iexact H12
  unfold held
  rw [mix_halves]
  iintro ⟨H1, H3, H5, H6, H7, H10, H13, H8, H11, H12⟩
  iapply (runs_get_all 𝒱 c (m := a9) (X := S.hs)) $$ H9; iintro H9
  rw [shapeCast_self]
  iapply (runs_put_all 𝒱 c (m := a9) (X := S.hs)) $$ H9; iintro H9
  unfold runs
  rw [wp_ret]; imodintro
  iapply Hk
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]; · iexact H10
  isplitl [H11]; · iexact H11
  isplitl [H12]; · iexact H12
  iexact H13

end Cert.Proof

end
-- ==== Proof.Ideal.lean ====
/-
  The launch of the program over the ideal numbers: the buffers the body keeps between points are described by an invariant
  that each point carries on, the output block of each point by a property the point establishes, and a run of the program
  then ends with its arguments unchanged and its output array made of blocks with that property.
-/
module

public import proofs.«01_k».proof.Proof.Triple
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame

@[expose] public section

noncomputable section

namespace Cert.Proof.OnIdeal

open Cert.KernelIdeal Cert.KernelIdeal.Gen
open Idealize.ShloMosaic Idealize.ShloMosaic.TcCoe Idealize.ShloMosaic.Tactic Idealize.SL Idealize.SL.RA Idealize.SL.BI Idealize.SL.Sem
open Idealize.SL.BI.BIBase Idealize.SL.BI.Laws Idealize.SL.ProofMode Idealize.ShloMosaic.Rounds
open scoped Idealize.SL.BI
open Idealize.ShloMosaic.Pipeline (RDat)

variable {F : FTy → Type} [FloatOps F]

local notation "𝕄" => MT nD τ sig Unit (Elt F) ℕ (UR sig nD τ) ℕ

set_option maxRecDepth 100000 in
set_option maxHeartbeats 4000000 in
/-- The printed body is `body` at the word of the point's coordinate. -/
theorem body_eq (i arg1 harg1 arg2 harg2 arg3 harg3 arg4 harg4 arg5 harg5 arg6 harg6 arg7 harg7 arg8 harg8 arg9 harg9
    arg10 harg10 arg11 harg11 arg12 harg12 arg13 harg13) :
    cc0_elman_rnn_paired (F := F) i arg1 harg1 arg2 harg2 arg3 harg3 arg4 harg4 arg5 harg5 arg6 harg6 arg7 harg7 arg8 harg8
        arg9 harg9 arg10 harg10 arg11 harg11 arg12 harg12 arg13 harg13
      = body (BitVec.ofNat 32 (i 0).val) arg1 arg2 arg3 arg4 arg5 arg6 arg7 arg8 arg9 arg10 arg11 arg12 arg13 := rfl

variable (m : (ℓ : Loc nD τ sig) → Buf (Elt F) ℓ)

/-- The word of point `t`'s coordinate. -/
abbrev word (t : Fin cfg0.N) : BitVec 32 := BitVec.ofNat 32 (grid0.coords t 0).val

/-- The blocks the body reads at point `t`. -/
def ops (c : Dev nD) (t : Fin cfg0.N) : Ops F :=
  ⟨iblk m c 0 t, iblk m c 1 t, iblk m c 2 t, iblk m c 3 t, iblk m c 4 t, iblk m c 5 t, iblk m c 6 t⟩

/-- A description of a run: what the kept buffers hold before each point, and what the output block of a point is like. -/
structure Track where
  /-- the kept buffers before point `t` -/
  inv : Dev nD → ℕ → Scr F → Prop
  /-- the output block point `t` leaves -/
  good : Dev nD → ℕ → Vec F Blk .f32 → Prop
  /-- anything may be kept before the first point -/
  first : ∀ c S, inv c 0 S
  /-- a point carries the description on -/
  step : ∀ c (t : Fin cfg0.N) S, inv c t.val S →
    inv c (t.val + 1) (next (word t) (ops m c t) S) ∧ good c t.val (outBlk (ops m c t) S)

variable {m} (T : Track m)

/-- The kept buffers, holding `S`. -/
def kept (c : Dev nD) (S : Scr F) : sProp 𝕄 :=
  iprop(at_ c (Memref.whole cc0_scratch0) S.hs ∗ at_ c (Memref.whole cc0_scratch1) S.xe ∗ at_ c (Memref.whole cc0_scratch2) S.xo
    ∗ at_ c (Memref.whole cc0_scratch3) S.he ∗ at_ c (Memref.whole cc0_scratch4) S.ho)

/-- The kept buffers as plain buffers. -/
theorem kept_eq (c : Dev nD) (S : Scr F) : (kept c S : sProp 𝕄)
    = iprop((((c : Thread nD τ).loc cc0_scratch0) ↦{fullShare} S.hs) ∗ (((c : Thread nD τ).loc cc0_scratch1) ↦{fullShare} S.xe)
      ∗ (((c : Thread nD τ).loc cc0_scratch2) ↦{fullShare} S.xo) ∗ (((c : Thread nD τ).loc cc0_scratch3) ↦{fullShare} S.he)
      ∗ (((c : Thread nD τ).loc cc0_scratch4) ↦{fullShare} S.ho)) := by
  have e0 : (at_ c (Memref.whole cc0_scratch0) S.hs : sProp 𝕄) = (((c : Thread nD τ).loc cc0_scratch0) ↦{fullShare} S.hs) := owns_whole _ _ _ _
  have e1 : (at_ c (Memref.whole cc0_scratch1) S.xe : sProp 𝕄) = (((c : Thread nD τ).loc cc0_scratch1) ↦{fullShare} S.xe) := owns_whole _ _ _ _
  have e2 : (at_ c (Memref.whole cc0_scratch2) S.xo : sProp 𝕄) = (((c : Thread nD τ).loc cc0_scratch2) ↦{fullShare} S.xo) := owns_whole _ _ _ _
  have e3 : (at_ c (Memref.whole cc0_scratch3) S.he : sProp 𝕄) = (((c : Thread nD τ).loc cc0_scratch3) ↦{fullShare} S.he) := owns_whole _ _ _ _
  have e4 : (at_ c (Memref.whole cc0_scratch4) S.ho : sProp 𝕄) = (((c : Thread nD τ).loc cc0_scratch4) ↦{fullShare} S.ho) := owns_whole _ _ _ _
  unfold kept
  rw [e0, e1, e2, e3, e4]

/-- The invariant before point `n`, outright. -/
def carried (c : Dev nD) (n : ℕ) : sProp 𝕄 := iprop((∃ S, ⌜T.inv c n S⌝ ∗ kept c S) ∗ ∃ r, prngReg c r)

/-- The proof data: inputs are left as found, the output block has the stated property, the kept buffers meet the invariant. -/
def dat (c : Dev nD) : RDat τ (Elt F) Unit ℕ (UR sig nD τ) ℕ cfg0 c where
  A w := V m c (Pipeline.arrRef spec0 w)
  after := fun
    | 0 | 1 | 2 | 3 | 4 | 5 | 6 => fun _ Y X => X = Y
    | 7 => fun t _ X => T.good c t.val X
    | ⟨_ + 8, h⟩ => absurd h (Nat.not_lt.2 (Nat.le_add_left _ _))
  Φ t := carried T c t.val
  q _ := fullShare
  owed _ := 0

/-- Before the first point the kept buffers are at any contents. -/
theorem enter (c : Dev nD) : (Pipeline.ΦA spec0 c : sProp 𝕄) ⊢ (dat T c).Φ 0 := by
  unfold Pipeline.ΦA
  rw [scopedRest0_eq]
  dsimp only [dat]; unfold carried
  iintro ⟨⟨⟨%a, H0⟩, ⟨%b, H1⟩, ⟨%d, H2⟩, ⟨%e, H3⟩, ⟨%f, H4⟩⟩, Hp⟩
  isplitr [Hp]
  · iexists (⟨a, b, d, e, f⟩ : Scr F)
    isplitr
    · ipureintro; exact T.first c _
    rw [kept_eq]
    isplitl [H0]; · iexact H0
    isplitl [H1]; · iexact H1
    isplitl [H2]; · iexact H2
    isplitl [H3]; · iexact H3
    iexact H4
  iexact Hp

/-- After the last point the kept buffers are forgotten. -/
theorem leave (c : Dev nD) : (dat T c).Φ (Fin.last cfg0.N) ⊢ (Pipeline.ΦA spec0 c : sProp 𝕄) := by
  unfold Pipeline.ΦA
  rw [scopedRest0_eq]
  dsimp only [dat]; unfold carried
  simp only [kept_eq]
  iintro ⟨⟨%S, -, H0, H1, H2, H3, H4⟩, Hp⟩
  isplitr [Hp]
  · isplitl [H0]; · iexists _; iexact H0
    isplitl [H1]; · iexists _; iexact H1
    isplitl [H2]; · iexists _; iexact H2
    isplitl [H3]; · iexists _; iexact H3
    iexists _; iexact H4
  iexact Hp

/-- An input window that is left as found holds its block at every point. -/
theorem finds_block {c : Dev nD} {w : Fin cfg0.W} (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t Y X, (dat T c).after w t Y X → X = Y) {t : Fin cfg0.N} {B}
    (hB : ∀ d, (dat T c).fetched w t d = B) {Y} (h : (dat T c).Finds w t Y) : Y = B := by
  obtain ⟨d, hd⟩ := (dat T c).finds_in_eq_fetched w hw hclip hkeep t Y h
  exact hd.trans (hB d)

/-- The body at a point: from the blocks found and the invariant, to the blocks left and the invariant one point on. -/
theorem point (c : Dev nD) : (dat T c).BodyObligation (defs₀ (F := F)) Variants.none () Set.univ := by
  intro t Y hY
  have e0 : Y 0 = iblk m c 0 t := finds_block (w := 0) T rfl (fun _ _ _ => rfl) (fun _ _ _ h => h) (fun _ => rfl) (hY 0)
  have e1 : Y 1 = iblk m c 1 t := finds_block (w := 1) T rfl (fun _ _ _ => rfl) (fun _ _ _ h => h) (fun _ => rfl) (hY 1)
  have e2 : Y 2 = iblk m c 2 t := finds_block (w := 2) T rfl (fun _ _ _ => rfl) (fun _ _ _ h => h) (fun _ => rfl) (hY 2)
  have e3 : Y 3 = iblk m c 3 t := finds_block (w := 3) T rfl (fun _ _ _ => rfl) (fun _ _ _ h => h) (fun _ => rfl) (hY 3)
  have e4 : Y 4 = iblk m c 4 t := finds_block (w := 4) T rfl (fun _ _ _ => rfl) (fun _ _ _ h => h) (fun _ => rfl) (hY 4)
  have e5 : Y 5 = iblk m c 5 t := finds_block (w := 5) T rfl (fun _ _ _ => rfl) (fun _ _ _ h => h) (fun _ => rfl) (hY 5)
  have e6 : Y 6 = iblk m c 6 t := finds_block (w := 6) T rfl (fun _ _ _ => rfl) (fun _ _ _ h => h) (fun _ => rfl) (hY 6)
  have hbody : defs₀ (F := F) .tc cfg0.body (cfg0.bodyArgs t (cfg0.slots t))
      = body (word t) (st0_0 t) (st0_1 t) (st0_2 t) (st0_3 t) (st0_4 t) (st0_5 t) (st0_6 t) (st0_7 t) (Memref.whole cc0_scratch0)
        (Memref.whole cc0_scratch1) (Memref.whole cc0_scratch2) (Memref.whole cc0_scratch3) (Memref.whole cc0_scratch4) :=
    body_eq (grid0.coords t) _ _ _ _ _ _ _ _ _ _ _ _ _ _ _ _ _ _ _ _ _ _ _ _ _ _
  rw [show (dat T c).Φ t.castSucc = carried T c t.val from rfl, show (dat T c).Φ t.succ = carried T c (t.val + 1) from rfl,
    show (dat T c).owesAt () t.succ = (dat T c).owesAt () t.castSucc from rfl, hbody, bigSep_W0, bigSep_W0, e0, e1, e2, e3, e4, e5, e6]
  unfold carried kept
  iintro ⟨⟨⟨%S, %hS, H9, H10, H11, H12, H13⟩, Hp⟩, Ho, H1, H2, H3, H4, H5, H6, H7, H8⟩
  obtain ⟨hn, hg⟩ := T.step c t S hS
  iapply (runs_body (defs := defs₀ (F := F)) Variants.none c (word t) (st0_0 t) (st0_1 t) (st0_2 t) (st0_3 t) (st0_4 t) (st0_5 t)
    (st0_6 t) (st0_7 t) (Memref.whole cc0_scratch0) (Memref.whole cc0_scratch1) (Memref.whole cc0_scratch2)
    (Memref.whole cc0_scratch3) (Memref.whole cc0_scratch4) (ops m c t) (Y 7) S) $$ [H1 H2 H3 H4 H5 H6 H7 H8 H9 H10 H11 H12 H13]
  · isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    isplitl [H10]; · iexact H10
    isplitl [H11]; · iexact H11
    isplitl [H12]; · iexact H12
    iexact H13
  iintro ⟨⟨H1, H2, H3, H4, H5, H6, H7, H8⟩, H9, H10, H11, H12, H13⟩
  isplitl [H9 H10 H11 H12 H13 Hp]
  · isplitr [Hp]
    · iexists (next (word t) (ops m c t) S)
      isplitr
      · ipureintro; exact hn
      isplitl [H9]; · iexact H9
      isplitl [H10]; · iexact H10
      isplitl [H11]; · iexact H11
      isplitl [H12]; · iexact H12
      iexact H13
    iexact Hp
  isplitl [Ho]; · iexact Ho
  isplitl [H1]; · iexists _; isplitr; (· ipureintro; rfl); iexact H1
  isplitl [H2]; · iexists _; isplitr; (· ipureintro; rfl); iexact H2
  isplitl [H3]; · iexists _; isplitr; (· ipureintro; rfl); iexact H3
  isplitl [H4]; · iexists _; isplitr; (· ipureintro; rfl); iexact H4
  isplitl [H5]; · iexists _; isplitr; (· ipureintro; rfl); iexact H5
  isplitl [H6]; · iexists _; isplitr; (· ipureintro; rfl); iexact H6
  isplitl [H7]; · iexists _; isplitr; (· ipureintro; rfl); iexact H7
  iexists (outBlk (ops m c t) S)
  isplitr; (· ipureintro; exact hg)
  iexact H8

/-- A run of the program ends, every array the windows stage at contents the description allows, every other buffer as
    the launch found it and every semaphore counter at zero. -/
theorem run (ρ : Dev nD → PrngReg) : θ_run (defs (F := F)) (onTc (τ := τ) (main (F := F))) ⟨m, fun _ => 0, ρ⟩
    (fun r => RDat.FramePost cfg0 (dat T) (V m) r ∧ r.2.sem = fun _ => 0) :=
  RDat.θ_run_frame_track cfgs 0 launch0 defs₀ Variants.none (dat T) m ρ main (point T) (fun _ _ => ite_self _) (fun _ _ => rfl)
    (V m) (hmain m Variants.none) (fun _ _ => rfl) (enter T) (leave T) _ (fun _ h => h)

/-- After such a run the arguments are as at the start. -/
theorem args_kept {r : PUnit × MemSt nD τ sig (Elt F)} (h : RDat.FramePost cfg0 (dat T) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  have hr (b) (hs) (hb : ∀ w, (spec0 w).arr.view.ref ≠ b) := (h c).2 b (Pipeline.mem_restRefs_of b hs hb)
  ⟨(RDat.FramePost.arr_in h c 0 rfl).trans (V_main_arg0 m c), (RDat.FramePost.arr_in h c 1 rfl).trans (V_main_arg1 m c),
    (hr main_arg2 (by decide) (by decide)).trans (V_main_arg2 m c), (hr main_arg3 (by decide) (by decide)).trans (V_main_arg3 m c),
    (hr main_arg4 (by decide) (by decide)).trans (V_main_arg4 m c), (hr main_arg5 (by decide) (by decide)).trans (V_main_arg5 m c),
    (hr main_arg6 (by decide) (by decide)).trans (V_main_arg6 m c), (hr main_arg7 (by decide) (by decide)).trans (V_main_arg7 m c)⟩

end Cert.Proof.OnIdeal

end
-- ==== Proof.Frames.lean ====
/-
  The three programs run to an end, leave their arguments unchanged and every semaphore counter at zero.
-/
module

public import proofs.«01_k».proof.Proof.Ideal
public import proofs.«01_k».proof.Proof.Gen.Kernel
public import proofs.«01_k».proof.Proof.Gen.ReferenceIdeal
public import proofs.«01_k».proof.Proof.Gen.ReferenceIdeal.Run
public import proofs.«01_k».proof.Proof.Gen.ReferenceIdeal.Step
public import proofs.«01_k».proof.Defs
public import Idealize.ShloMosaic.Lib.Quiescent

@[expose] public section

noncomputable section

namespace Cert.Proof

open Idealize.ShloMosaic Idealize.SL Idealize.SL.Sem

set_option maxRecDepth 100000 in
set_option maxHeartbeats 4000000 in
/-- The two printed bodies are one text. -/
theorem kernel_body_eq {F : FTy → Type} [FloatOps F] :
    @Cert.Kernel.cc0_elman_rnn_paired F _ _ = @Cert.KernelIdeal.cc0_elman_rnn_paired F _ _ := rfl

set_option maxRecDepth 100000 in
set_option maxHeartbeats 4000000 in
/-- The two tables of bodies are one table. -/
theorem kernel_defs₀_eq {F : FTy → Type} [FloatOps F] : (Cert.Kernel.defs₀ (F := F)) = (Cert.KernelIdeal.defs₀ (F := F)) := by
  unfold Cert.Kernel.defs₀ Cert.KernelIdeal.defs₀
  congr 1
  funext l a
  match l, a with
  | ⟨0, _⟩, (t, s) => rfl

/-- With the launches added, still one table. -/
theorem kernel_defs_eq {F : FTy → Type} [FloatOps F] : (Cert.Kernel.defs (F := F)) = (Cert.KernelIdeal.defs (F := F)) :=
  congrArg (Pipeline.defs Cert.KernelIdeal.pcfgs) kernel_defs₀_eq

/-- The two main functions are one text. -/
theorem kernel_main_eq {F : FTy → Type} [FloatOps F] : (Cert.Kernel.main (F := F)) = (Cert.KernelIdeal.main (F := F)) := rfl

/-- The description that says nothing. -/
def noTrack {F : FTy → Type} [FloatOps F] (m : (ℓ : Loc Cert.KernelIdeal.nD Cert.KernelIdeal.τ Cert.KernelIdeal.sig) → Buf (Elt F) ℓ) :
    OnIdeal.Track m :=
  ⟨fun _ _ _ => True, fun _ _ _ => True, fun _ _ => trivial, fun _ _ _ _ => ⟨trivial, trivial⟩⟩

/-- The idealized program, at any numbers, ends with its arguments unchanged and its counters at zero. -/
theorem frame_any {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0) :=
  (θ_run _ _ _).mono (fun _ h => And.intro (fun c => OnIdeal.args_kept (noTrack m) h.1 c) h.2) (OnIdeal.run (noTrack m) g)

/-- The idealized program ends with its arguments unchanged and its counters at zero. -/
theorem frame_ideal : Cert.quiescent_KernelIdeal (hKernelIdeal := Cert.KernelIdeal.Gen.facts) := fun m g _ => frame_any m g

/-- The program ends with its arguments unchanged and its counters at zero. -/
theorem frame_kernel : Cert.quiescent_Kernel (hKernel := Cert.Kernel.Gen.facts) := by
  intro m g _
  rw [kernel_defs_eq, kernel_main_eq]
  exact frame_any (F := Bits) m g

/-- The reference ends with its arguments unchanged and its counters at zero. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

end Cert.Proof

end
-- ==== Proof.Network.lean ====
/-
  The network as mathematics, and the kernel's arithmetic read element by element: projected inputs, hidden states and
  outputs as sums over the extended reals.
-/
module

public import proofs.«01_k».proof.Proof.Triple
public import Idealize.ShloMosaic.Lib.Pointwise.Tactic
public import Idealize.ShloMosaic.Lib.Pointwise.Contract
public import Idealize.ShloMosaic.Lib.Pointwise.Reshape

@[expose] public section

noncomputable section

namespace Cert.Proof

open Idealize.ShloMosaic

/-! ## The network -/

/-- The arguments of the network. -/
structure Net where
  /-- the inputs, one batch a time step -/
  x : (⟨3, ![2048, 64, 512]⟩ : Shape).Idx → EReal
  /-- the first hidden state -/
  h : Bat.Idx → EReal
  /-- the input weights, one row a hidden unit -/
  wi : Wt.Idx → EReal
  /-- the input bias -/
  bi : (⟨1, ![512]⟩ : Shape).Idx → EReal
  /-- the recurrent weights, one row a hidden unit -/
  wh : Wt.Idx → EReal
  /-- the recurrent bias -/
  bh : (⟨1, ![512]⟩ : Shape).Idx → EReal
  /-- the output weights, one row an output -/
  wo : Wt.Idx → EReal
  /-- the output bias -/
  bo : (⟨1, ![512]⟩ : Shape).Idx → EReal

/-- The projected input of time step `n`. -/
def Net.proj (N : Net) (n : ℕ) : Bat.Idx → EReal := fun j =>
  ∑ k : Fin 512, N.x (ix3 (Fin.ofNat 2048 n) (j 0) k) * N.wi (ix2 (j 1) k) + N.bi (ix1 (j 1)) + N.bh (ix1 (j 1))

/-- The hidden state after `n` time steps. -/
def Net.hid (N : Net) : ℕ → Bat.Idx → EReal
  | 0 => N.h
  | n + 1 => fun j => Ideal.tanh (N.proj n j + ∑ k : Fin 512, Net.hid N n (ix2 (j 0) k) * N.wh (ix2 (j 1) k))

/-- The output of time step `n`. -/
def Net.out (N : Net) (n : ℕ) : Bat.Idx → EReal := fun j =>
  ∑ k : Fin 512, N.hid (n + 1) (ix2 (j 0) k) * N.wo (ix2 (j 1) k) + N.bo (ix1 (j 1))

/-! ## The kernel's arithmetic at an element -/

/-- A time step at an element. -/
theorem cell_at (w : FVec Ideal Wt .f32) (h : FVec Ideal Bat .f32) (x : Vec Ideal Row .f32) (b : Fin 64) (o : Fin 512) :
    cell w h x (ix2 b o) = Ideal.tanh (x (ix3 0 b o) + ∑ k : Fin 512, h (ix2 b k) * w (ix2 k o)) := by
  pointwise [cell, preact, dotB]

/-- A hidden state as a row, at an element. -/
theorem asRow_at (h : FVec Ideal Bat .f32) (i : Fin 1) (b : Fin 64) (o : Fin 512) : asRow h (ix3 i b o) = h (ix2 b o) := by
  pointwise [asRow]

/-- An affine layer at an element. -/
theorem affine_at (w : FVec Ideal Wt .f32) (b : FVec Ideal Bia .f32) (x : Vec Ideal Chk .f32) (i : Fin 2) (r : Fin 64) (o : Fin 512) :
    affine w b x (ix3 i r o) = ∑ k : Fin 512, x (ix3 i r k) * w (ix2 k o) + b (ix2 0 o) := by
  pointwise [affine, dotM]

/-- Row `i` of the projections a run stores is row `o + i` of the block, projected. -/
theorem projs_at {o : ℕ} (ho : o ≤ 32) (w : Vec Ideal Wt .f32) (b : Vec Ideal Bia .f32) (x : Vec Ideal Blk .f32) {i : ℕ} (hi : i < 32)
    (r : Fin 64) (q : Fin 512) :
    projs o w b x (ix3 (⟨i, hi⟩ : Fin 32) r q)
      = ∑ k : Fin 512, x (ix3 (Fin.ofNat 64 (o + i)) r k) * w (ix2 k q) + b (ix2 0 q) := by
  refine (affine_at w b _ (Fin.ofNat 2 (i - 0)) r q).trans ?_
  refine congrArg (· + _) (Finset.sum_congr rfl fun k _ => congrArg (· * _) ?_)
  show x (ix3 (Fin.ofNat 64 (o + 2 * ((i - 0) / 2) + (i - 0) % 2)) r k) = _
  rw [show o + 2 * ((i - 0) / 2) + (i - 0) % 2 = o + i by omega]

/-- Row `o + i` of the outputs a run stores is row `i` of the hidden states, put out. -/
theorem outs_at (o : ℕ) (w : Vec Ideal Wt .f32) (b : Vec Ideal Bia .f32) (x : Vec Ideal Hlf .f32) {i : ℕ} (hi : i < 32)
    (hoi : o + i < 64) (r : Fin 64) (q : Fin 512) :
    outs o w b x (ix3 (⟨o + i, hoi⟩ : Fin 64) r q)
      = ∑ k : Fin 512, x (ix3 (⟨i, hi⟩ : Fin 32) r k) * w (ix2 k q) + b (ix2 0 q) := by
  refine (affine_at w b _ (Fin.ofNat 2 (o + i - o)) r q).trans ?_
  refine congrArg (· + _) (Finset.sum_congr rfl fun k _ => congrArg (· * _) ?_)
  show x (ix3 (Fin.ofNat 32 (2 * ((o + i - o) / 2) + (o + i - o) % 2)) r k) = _
  rw [show (Fin.ofNat 32 (2 * ((o + i - o) / 2) + (o + i - o) % 2)) = (⟨i, hi⟩ : Fin 32) from
    Fin.ext (by show (2 * ((o + i - o) / 2) + (o + i - o) % 2) % 32 = i; omega)]

/-- Row `i` of the hidden states a run stores is the state after step `i`. -/
theorem hids_at (w : FVec Ideal Wt .f32) (x : Vec Ideal Hlf .f32) (h : FVec Ideal Bat .f32) {i : ℕ} (hi : i < 32)
    (r : Fin 64) (q : Fin 512) :
    hids w x h (ix3 (⟨i, hi⟩ : Fin 32) r q) = hseq w x h (i + 1) (ix2 r q) :=
  asRow_at _ 0 r q

/-! ## The kernel's arithmetic against the network -/

/-- The first hidden state, the weights and the biases are those of the network `N`. -/
structure Holds (N : Net) (I : Ops Ideal) : Prop where
  h : I.h = N.h
  wi : ∀ k o, I.wi (ix2 k o) = N.wi (ix2 o k)
  wh : ∀ k o, I.wh (ix2 k o) = N.wh (ix2 o k)
  wo : ∀ k o, I.wo (ix2 k o) = N.wo (ix2 o k)
  bh : ∀ o, I.bh (ix2 0 o) = N.bi (ix1 o) + N.bh (ix1 o)
  bo : ∀ o, I.bo (ix2 0 o) = N.bo (ix1 o)

/-- The block of inputs is that of the network `N` from time step `n` on. -/
def IsInput (N : Net) (n : ℕ) (x : Vec Ideal Blk .f32) : Prop :=
  ∀ i (hi : i < 64) b k, x (ix3 (⟨i, hi⟩ : Fin 64) b k) = N.x (ix3 (Fin.ofNat 2048 (n + i)) b k)

variable {N : Net} {n : ℕ} {I : Ops Ideal}

/-- Rows that are the projected inputs from time step `n` on. -/
def IsProj (N : Net) (n : ℕ) (x : Vec Ideal Hlf .f32) : Prop :=
  ∀ i (hi : i < 32) b o, x (ix3 (⟨i, hi⟩ : Fin 32) b o) = N.proj (n + i) (ix2 b o)

/-- Rows that are the hidden states from after time step `n` on. -/
def IsHid (N : Net) (n : ℕ) (x : Vec Ideal Hlf .f32) : Prop :=
  ∀ i (hi : i < 32) b o, x (ix3 (⟨i, hi⟩ : Fin 32) b o) = N.hid (n + i + 1) (ix2 b o)

/-- A run's projections are the network's. -/
theorem projs_eq (M : Holds N I) (X : IsInput N n I.x) {o : ℕ} (ho : o ≤ 32) : IsProj N (n + o) (projs o I.wi I.bh I.x) := by
  intro i hi b q
  rw [projs_at ho _ _ _ hi]
  unfold Net.proj
  rw [M.bh, ← add_assoc]
  refine congrArg (· + _) (congrArg (· + _) (Finset.sum_congr rfl fun k _ => ?_))
  rw [M.wi, show (Fin.ofNat 64 (o + i)) = (⟨o + i, by omega⟩ : Fin 64) from Fin.ext (Nat.mod_eq_of_lt (by omega)), X,
    Nat.add_assoc]
  rfl

/-- A run over the network's projected inputs, from the network's hidden state, goes through the network's hidden states. -/
theorem hseq_eq (M : Holds N I) {p : ℕ} {x : Vec Ideal Hlf .f32} (hx : IsProj N p x) {h : FVec Ideal Bat .f32} (hh : h = N.hid p) :
    ∀ i ≤ 32, hseq I.wh x h i = N.hid (p + i)
  | 0, _ => hh
  | i + 1, hi => by
    have ih := hseq_eq M hx hh i (by omega)
    funext j
    obtain ⟨r, q, rfl⟩ : ∃ r q, j = ix2 r q := ⟨j 0, j 1, eq_ix2 j⟩
    show cell I.wh (hseq I.wh x h i) (rows x i) (ix2 r q) = _
    rw [cell_at, ih]
    show Ideal.tanh (x (ix3 (Fin.ofNat 32 (i + 0)) r q) + _) = Ideal.tanh (N.proj (p + i) (ix2 r q) + _)
    rw [show (Fin.ofNat 32 (i + 0)) = (⟨i, by omega⟩ : Fin 32) from Fin.ext (Nat.mod_eq_of_lt (by omega)), hx i (by omega)]
    exact congrArg Ideal.tanh (congrArg (_ + ·) (Finset.sum_congr rfl fun k _ => congrArg (_ * ·) (M.wh _ _)))

/-- Such a run stores the network's hidden states. -/
theorem hids_eq (M : Holds N I) {p : ℕ} {x : Vec Ideal Hlf .f32} (hx : IsProj N p x) {h : FVec Ideal Bat .f32} (hh : h = N.hid p) :
    IsHid N p (hids I.wh x h) := by
  intro i hi b o
  rw [hids_at _ _ _ hi, hseq_eq M hx hh (i + 1) (by omega), Nat.add_assoc]

/-- A run over the network's hidden states puts out the network's outputs. -/
theorem outs_eq (M : Holds N I) {p : ℕ} {x : Vec Ideal Hlf .f32} (hx : IsHid N p x) (o : ℕ) {i : ℕ} (hi : i < 32) (hoi : o + i < 64)
    (r : Fin 64) (q : Fin 512) :
    outs o I.wo I.bo x (ix3 (⟨o + i, hoi⟩ : Fin 64) r q) = N.out (p + i) (ix2 r q) := by
  rw [outs_at o _ _ _ hi hoi, M.bo]
  refine congrArg (· + _) (Finset.sum_congr rfl fun k _ => ?_)
  rw [hx, M.wo]
  rfl

/-! ## A point of the grid against the network -/

/-- What the kept buffers hold before point `t`: after the first point, the hidden state half way through the last block, and
    of that block the hidden states of the first half and the projected inputs of the second. -/
def Kept (N : Net) (t : ℕ) (S : Scr Ideal) : Prop :=
  ∀ s, t = s + 1 → s < 32 → S.hs = N.hid (64 * s + 32) ∧ IsHid N (64 * s) S.he ∧ IsProj N (64 * s + 32) S.xo

/-- The output block point `t` leaves: after the first point, the outputs of the last block. -/
def Puts (N : Net) (t : ℕ) (X : Vec Ideal Blk .f32) : Prop :=
  ∀ s, t = s + 1 → ∀ i (hi : i < 64) b o, X (ix3 (⟨i, hi⟩ : Fin 64) b o) = N.out (64 * s + i) (ix2 b o)

/-- The state a point's second run starts from. -/
theorem start_eq {t : ℕ} (ht : t < 32) (M : Holds N I) {S : Scr Ideal} (hS : Kept N t S) :
    start (BitVec.ofNat 32 t) I S = N.hid (64 * t) := by
  unfold start
  cases t with
  | zero => exact M.h
  | succ s =>
    obtain ⟨hh, -, hx⟩ := hS s rfl (by omega)
    have hk : ∀ s : Fin 32, Scalar.cmpi .eq (BitVec.ofNat 32 (s.val + 1)) 0#32 = 0#1 := by decide
    rw [hk ⟨s, by omega⟩]
    refine (hseq_eq M hx hh 32 le_rfl).trans (congrArg N.hid (by omega))

/-- A point keeps what the next one needs. -/
theorem next_kept {t : ℕ} (M : Holds N I) (X : t < 32 → IsInput N (64 * t) I.x) {S : Scr Ideal} (hS : Kept N t S) :
    Kept N (t + 1) (next (BitVec.ofNat 32 t) I S) := by
  intro s hs hlt
  obtain rfl : t = s := by omega
  have X := X hlt
  have h0 := start_eq hlt M hS
  have hp := projs_eq M X (Nat.zero_le 32)
  exact ⟨hseq_eq M hp h0 32 le_rfl, hids_eq M hp h0, projs_eq M X le_rfl⟩

/-- A point puts out the block before. -/
theorem puts_out {t : ℕ} (ht : t ≤ 32) (M : Holds N I) {S : Scr Ideal} (hS : Kept N t S) : Puts N t (outBlk I S) := by
  intro s hs i hi b o
  obtain ⟨hh, he, hx⟩ := hS s hs (by omega)
  have ho := hids_eq M hx hh
  unfold outBlk mix
  by_cases h : 32 ≤ i
  · obtain ⟨k, rfl⟩ := Nat.exists_eq_add_of_le h
    rw [if_pos ⟨h, hi⟩, outs_eq M ho 32 (by omega) hi, Nat.add_assoc]
  · rw [if_neg (fun c => h c.1)]
    have := outs_eq M he 0 (i := i) (by omega) (by omega) b o
    simpa only [Nat.zero_add] using this

end Cert.Proof

end
-- ==== Proof.Value.lean ====
/-
  The program over the ideal numbers computes the network: what its windows hold, and what its output array ends at.
-/
module

public import proofs.«01_k».proof.Proof.Ideal
public import proofs.«01_k».proof.Proof.Network
public import Idealize.ShloMosaic.Lib.Pipeline.ValueKit
public import Idealize.ShloMosaic.Lib.Pipeline.ArrRel
public import Idealize.ShloMosaic.Lib.StableHlo.RunRead

@[expose] public section

noncomputable section

namespace Cert.Proof.OnIdeal

open Cert.KernelIdeal Cert.KernelIdeal.Gen
open Idealize.ShloMosaic Idealize.ShloMosaic.TcCoe Idealize.SL.Sem
open Idealize.ShloMosaic.Pipeline (RDat)

variable (m : (ℓ : Loc nD τ sig) → Buf (Elt Ideal) ℓ) (c : Dev nD)

/-- The network of the arguments on device `c`. -/
def net : Net where
  x := m ((c.tc : Thread nD τ).loc main_arg0)
  h := m ((c.tc : Thread nD τ).loc main_arg1)
  wi := m ((c.tc : Thread nD τ).loc main_arg2)
  bi := m ((c.tc : Thread nD τ).loc main_arg3)
  wh := m ((c.tc : Thread nD τ).loc main_arg4)
  bh := m ((c.tc : Thread nD τ).loc main_arg5)
  wo := m ((c.tc : Thread nD τ).loc main_arg6)
  bo := m ((c.tc : Thread nD τ).loc main_arg7)

/-! ## What the windows hold -/

/-- A point's coordinate is its number. -/
theorem coord_eq : ∀ t : Fin cfg0.N, (grid0.coords t 0).val = t.val := by decide +kernel

/-- Where the inputs' window stands at a point. -/
theorem index0 : ∀ t : Fin cfg0.N, t.val < 32 → win0_0.index t 0 = t.val ∧ win0_0.index t 1 = 0 ∧ win0_0.index t 2 = 0 := by decide +kernel

/-- Where the output's window stands at a point. -/
theorem index7 : ∀ t : Fin cfg0.N, win0_7.index t 0 = t.val - 1 ∧ win0_7.index t 1 = 0 ∧ win0_7.index t 2 = 0 := by decide +kernel

/-- The output's window is written back at every point but the first. -/
theorem flush7 : ∀ t : Fin cfg0.N, (cfg0.win 7).flush t = true → 0 < t.val := by decide +kernel

/-- The inputs' window holds the point's block. -/
theorem iblk0_at (t : Fin cfg0.N) (ht : t.val < 32) (i : ℕ) (hi : i < 64) (b : Fin 64) (k : Fin 512) :
    iblk m c 0 t (ix3 (⟨i, hi⟩ : Fin 64) b k) = m ((c.tc : Thread nD τ).loc main_arg0) (ix3 (Fin.ofNat 2048 (64 * t.val + i)) b k) := by
  obtain ⟨e0, e1, e2⟩ := index0 t ht
  have e : (Fin.ofNat 2048 (64 * t.val + i)).val = 64 * t.val + i := Nat.mod_eq_of_lt (by omega)
  blk_ext [iblk, V, e0, e1, e2]

/-- The first hidden state's window holds it. -/
theorem iblk1_eq (t : Fin cfg0.N) : iblk m c 1 t = m ((c.tc : Thread nD τ).loc main_arg1) := by
  have e0 : win0_1.index t 0 = 0 := rfl
  have e1 : win0_1.index t 1 = 0 := rfl
  funext j
  blk_ext [iblk, V, e0, e1]

/-- The input weights' window holds the array the launch finds. -/
theorem iblk2_eq (t : Fin cfg0.N) : iblk m c 2 t = V m c main_v3 := by
  have e0 : win0_2.index t 0 = 0 := rfl
  have e1 : win0_2.index t 1 = 0 := rfl
  funext j
  blk_ext [iblk, e0, e1]

/-- The recurrent weights' window holds the array the launch finds. -/
theorem iblk3_eq (t : Fin cfg0.N) : iblk m c 3 t = V m c main_v4 := by
  have e0 : win0_3.index t 0 = 0 := rfl
  have e1 : win0_3.index t 1 = 0 := rfl
  funext j
  blk_ext [iblk, e0, e1]

/-- The output weights' window holds the array the launch finds. -/
theorem iblk4_eq (t : Fin cfg0.N) : iblk m c 4 t = V m c main_v5 := by
  have e0 : win0_4.index t 0 = 0 := rfl
  have e1 : win0_4.index t 1 = 0 := rfl
  funext j
  blk_ext [iblk, e0, e1]

/-- The window of the biases' sum holds the array the launch finds. -/
theorem iblk5_eq (t : Fin cfg0.N) : iblk m c 5 t = V m c main_v1 := by
  have e0 : win0_5.index t 0 = 0 := rfl
  have e1 : win0_5.index t 1 = 0 := rfl
  funext j
  blk_ext [iblk, e0, e1]

/-- The output bias's window holds the array the launch finds. -/
theorem iblk6_eq (t : Fin cfg0.N) : iblk m c 6 t = V m c main_v2 := by
  have e0 : win0_6.index t 0 = 0 := rfl
  have e1 : win0_6.index t 1 = 0 := rfl
  funext j
  blk_ext [iblk, e0, e1]

/-! ## What the launch finds -/

/-- The input weights are transposed before the launch. -/
theorem V_wi (k o : Fin 512) : V m c main_v3 (ix2 k o) = m ((c.tc : Thread nD τ).loc main_arg2) (ix2 o k) := by
  have e : V m c main_v3 = transpose S512x512 [1, 0] (m ((c.tc : Thread nD τ).loc main_arg2)) transposes_S512x512_S512x512_1_0 := by
    unfold V hostOps0; after_reads_simp
  rw [e]
  pointwise

/-- The recurrent weights are transposed before the launch. -/
theorem V_wh (k o : Fin 512) : V m c main_v4 (ix2 k o) = m ((c.tc : Thread nD τ).loc main_arg4) (ix2 o k) := by
  have e : V m c main_v4 = transpose S512x512 [1, 0] (m ((c.tc : Thread nD τ).loc main_arg4)) transposes_S512x512_S512x512_1_0 := by
    unfold V hostOps0; after_reads_simp
  rw [e]
  pointwise

/-- The output weights are transposed before the launch. -/
theorem V_wo (k o : Fin 512) : V m c main_v5 (ix2 k o) = m ((c.tc : Thread nD τ).loc main_arg6) (ix2 o k) := by
  have e : V m c main_v5 = transpose S512x512 [1, 0] (m ((c.tc : Thread nD τ).loc main_arg6)) transposes_S512x512_S512x512_1_0 := by
    unfold V hostOps0; after_reads_simp
  rw [e]
  pointwise

/-- The two biases are added before the launch. -/
theorem V_bh (o : Fin 512) : V m c main_v1 (ix2 0 o)
    = (net m c).bi (ix1 o) + (net m c).bh (ix1 o) := by
  have e : V m c main_v1 = shapeCast S1x512 (addf (s := S512) (φ := .f32) (F := Ideal) (m ((c.tc : Thread nD τ).loc main_arg3)) (m ((c.tc : Thread nD τ).loc main_arg5)))
      shapeCasts_S512_S1x512 := by
    unfold V hostOps0; after_reads_simp; rfl
  rw [e]
  pointwise
  rfl

/-- The output bias is reshaped before the launch. -/
theorem V_bo (o : Fin 512) : V m c main_v2 (ix2 0 o) = m ((c.tc : Thread nD τ).loc main_arg7) (ix1 o) := by
  have e : V m c main_v2 = shapeCast S1x512 (m ((c.tc : Thread nD τ).loc main_arg7)) shapeCasts_S512_S1x512 := by
    unfold V hostOps0; after_reads_simp; rfl
  rw [e]
  pointwise

/-- The weights and biases of a point are the network's. -/
theorem ops_holds (t : Fin cfg0.N) : Holds (net m c) (ops m c t) where
  h := iblk1_eq m c t
  wi k o := (congrFun (iblk2_eq m c t) _).trans (V_wi m c k o)
  wh k o := (congrFun (iblk3_eq m c t) _).trans (V_wh m c k o)
  wo k o := (congrFun (iblk4_eq m c t) _).trans (V_wo m c k o)
  bh o := (congrFun (iblk5_eq m c t) _).trans (V_bh m c o)
  bo o := (congrFun (iblk6_eq m c t) _).trans (V_bo m c o)

/-! ## The run -/

/-- The run goes through the network. -/
def track : Track m where
  inv c t S := Kept (net m c) t S
  good c t X := Puts (net m c) t X
  first c S := fun s h => absurd h (Nat.succ_ne_zero s).symm
  step c t S h := by
    have ht : t.val ≤ 32 := Nat.lt_succ_iff.1 (lt_of_lt_of_eq t.isLt N_0)
    rw [show word t = BitVec.ofNat 32 t.val from congrArg _ (coord_eq t)]
    exact ⟨next_kept (ops_holds m c t) (iblk0_at m c t) h, puts_out ht (ops_holds m c t) h⟩

/-- The network's outputs, one batch a time step. -/
def outputs : Buf (Elt Ideal) ((c.tc : Thread nD τ).loc main_v6) :=
  fun j : (⟨3, ![2048, 64, 512]⟩ : Shape).Idx => (net m c).out (j 0).val (ix2 (j 1) (j 2))

/-- The output array ends at the network's outputs. -/
theorem final {r : PUnit × MemSt nD τ sig (Elt Ideal)} (h : RDat.FramePost cfg0 (dat (track m)) (V m) r) :
    r.2.mem ((c.tc : Thread nD τ).loc main_v6) = outputs m c := by
  obtain ⟨after, hL, hA⟩ := h.exists_exact c
  refine (hA 7).trans (Pipeline.Dat.arrAt_eq_of_covers _ 7 _ (by decide +kernel) fun t hf y => ?_)
  obtain ⟨Y, -, hg⟩ := hL 7 t hf
  replace hg : Puts (net m c) t.val (after 7 t) := hg
  obtain ⟨s, hs⟩ : ∃ s, t.val = s + 1 := Nat.exists_eq_succ_of_ne_zero (Nat.pos_iff_ne_zero.1 (flush7 t hf))
  have g := hg s hs
  obtain ⟨e0, e1, e2⟩ := index7 t
  have y0 : (y 0).val < 64 := (y 0).isLt
  have hy : (cfg0.win 7).xinj (cfg0.grid.coords t) y = ix3 (⟨(y 0).val, y0⟩ : Fin 64) (y 1 : Fin 64) (y 2 : Fin 512) := eq_ix3 _
  refine ((congrArg (after 7 t) hy).trans (g _ y0 _ _)).trans ?_
  have h0 : ((((cfg0.win 7).blk t).view.emb y) 0).val = 64 * s + (y 0).val := by
    blk_simp [e0]
    omega
  have h1 : (((cfg0.win 7).blk t).view.emb y) 1 = (y 1 : Fin 64) := by
    refine Fin.ext ?_
    blk_simp [e1]
  have h2 : (((cfg0.win 7).blk t).view.emb y) 2 = (y 2 : Fin 512) := by
    refine Fin.ext ?_
    blk_simp [e2]
  unfold outputs
  rw [h0, h1, h2]

/-- A run of the program ends with the network's outputs, its arguments unchanged. -/
theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v6) = outputs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun _ h c => ⟨final m c h.1, args_kept (track m) h.1 c⟩) (run (track m) ρ)

end Cert.Proof.OnIdeal

end
-- ==== Proof.Reference.lean ====
/-
  The reference's run: its loop carries a state from trip to trip, and the result is made of the state after the last trip.
-/
module

public import proofs.«01_k».proof.Proof.Gen.ReferenceIdeal
public import proofs.«01_k».proof.Proof.Gen.ReferenceIdeal.Run
public import proofs.«01_k».proof.Proof.Gen.ReferenceIdeal.Step

@[expose] public section

noncomputable section

namespace Cert.Proof.OnReference

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- Before trip `j` the loop's buffers hold the state `s` and the number `j`. -/
structure Before (V0 : Valuation τ sig (Elt F)) (s : State F) (j : ℕ) : Prop where
  hidden : V0 (Proc.devRef .tc main_v8_3) = s.main_v8_3
  stored : V0 (Proc.devRef .tc main_v8_4) = s.main_v8_4
  inputs : V0 (Proc.devRef .tc main_v8_0) = s.main_v8_0
  weights : V0 (Proc.devRef .tc main_v8_1) = s.main_v8_1
  number : V0 (Proc.devRef .tc main_v8_2) = constantI S_ 32 (BitVec.ofNat 32 j)

/-- The state read off the buffers. -/
def stateOf (V0 : Valuation τ sig (Elt F)) : State F :=
  ⟨V0 (Proc.devRef .tc main_v8_3), V0 (Proc.devRef .tc main_v8_4), V0 (Proc.devRef .tc main_v8_0), V0 (Proc.devRef .tc main_v8_1)⟩

variable {V0 : Valuation τ sig (Elt F)} {s : State F} {j : ℕ}

/-- The state before a trip is the one its buffers hold. -/
theorem Before.eq (h : Before V0 s j) : s = stateOf V0 := by
  unfold stateOf
  rw [h.hidden, h.stored, h.inputs, h.weights]

/-- A trip's hidden state. -/
theorem trip_hidden (h : Before V0 s j) : step_main_v8_3 V0 = (step j s).main_v8_3 := by
  rw [h.eq]
  unfold step_main_v8_3 step Step.b7 Step.b6 Step.b3 Step.b2
  rw [← h.number]
  rfl

/-- A trip's stored states. -/
theorem trip_stored (h : Before V0 s j) : step_main_v8_4 V0 = (step j s).main_v8_4 := by
  rw [h.eq]
  unfold step_main_v8_4 step Step.b11 Step.b8 Step.b7 Step.b6 Step.b3 Step.b2
  rw [← h.number]
  rfl

/-- A trip counts on. -/
theorem trip_number (h : Before V0 s j) : step_main_v8_2 V0 = constantI S_ 32 (BitVec.ofNat 32 (j + 1)) := by
  unfold step_main_v8_2
  rw [h.number]
  funext i
  exact (BitVec.ofNat_add j 1).symm

/-- A trip takes one state to the next. -/
theorem trip (h : Before V0 s j) : Before (STEP V0) (step j s) (j + 1) where
  hidden := (STEP_main_v8_3 V0).trans (trip_hidden h)
  stored := (STEP_main_v8_4 V0).trans (trip_stored h)
  number := (STEP_main_v8_2 V0).trans (trip_number h)
  inputs := (STEP_main_v8_0 V0).trans h.inputs
  weights := (STEP_main_v8_1 V0).trans h.weights

variable (m : (ℓ : Loc nD τ sig) → Buf (Elt F) ℓ) (c : Dev nD)

/-- The state before trip `k`. -/
def state : ℕ → State F
  | 0 => init (m ((c.tc : Thread nD τ).loc main_arg1)) (m ((c.tc : Thread nD τ).loc main_arg4)) (m ((c.tc : Thread nD τ).loc main_arg0))
      (m ((c.tc : Thread nD τ).loc main_arg2)) (m ((c.tc : Thread nD τ).loc main_arg3)) (m ((c.tc : Thread nD τ).loc main_arg5))
  | k + 1 => step k (state k)

set_option maxRecDepth 65536 in
/-- The loop is entered at the first state. -/
theorem entered : Before (entryContents preI m c) (state m c 0) 0 := by
  constructor <;> (simp only [entryContents, afterL_cons, afterL_nil]; after_reads_simp) <;> rfl

/-- Every trip is entered at its state. -/
theorem reached : ∀ k, Before (STEP^[k] (entryContents preI m c)) (state m c k) k
  | 0 => entered m c
  | k + 1 => by
    rw [Function.iterate_succ_apply']
    exact trip (reached k)

/-- The result, of the buffers after the last trip. -/
theorem result_of {x6 : (⟨S512x512, .f32⟩ : BufTy).Contents (Elt F)} {x7 : (⟨S512, .f32⟩ : BufTy).Contents (Elt F)} (h : Before V0 s j)
    (h6 : V0 (Proc.devRef .tc main_arg6) = x6) (h7 : V0 (Proc.devRef .tc main_arg7) = x7) :
    out_main_v12 V0 = Step.R_main_v12 s x6 x7 := by
  unfold out_main_v12 Step.R_main_v12
  rw [h.stored, h6, h7]
  try rfl

/-- The reference ends, its result made of the state after the last trip, its arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v12) = Step.R_main_v12 (state m c 2048) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c).1.trans (result_of (reached m c 2048) (iter_main_arg6 m c 2048) (iter_main_arg7 m c 2048)), (h c).2⟩) (Value.run m ρ)

end Cert.Proof.OnReference

end
-- ==== Proof.RefValue.lean ====
/-
  The reference over the ideal numbers computes the network.
-/
module

public import proofs.«01_k».proof.Proof.Reference
public import proofs.«01_k».proof.Proof.Network
public import Idealize.ShloMosaic.Lib.WordCmp

@[expose] public section

noncomputable section

namespace Cert.Proof.OnReference

open Idealize.ShloMosaic Idealize.ShloMosaic.TcCoe Idealize.SL.Sem Idealize.ShloMosaic.StableHlo
open Cert.ReferenceIdeal Cert.ReferenceIdeal.Gen
open Cert.ReferenceIdeal.Step (State step init b2 b3 b4 b5 b6 b7 b8 b11 A_main_v0 A_main_v1 A_main_v2 A_main_v3 A_main_v4 A_main_v5 A_main_v6 R_main_v12)

/-- A trip's hidden state at an element. -/
theorem hidden_at (j : ℕ) (s : State Ideal) (r : Fin 64) (o : Fin 512) :
    b7 j s (ix2 r o) = Ideal.tanh (b2 j s (ix3 0 r o) + ∑ x : Fin 512, s.main_v8_3 (ix2 r x) * s.main_v8_1 (ix2 o x)) := by
  pointwise [b7, b6, b5, b4, b3]

/-- The row a trip stores, at an element. -/
theorem row_at (j : ℕ) (s : State Ideal) (r : Fin 64) (o : Fin 512) : b8 j s (ix3 0 r o) = b7 j s (ix2 r o) := by
  pointwise [b8]

/-- A trip's number as a signed word. -/
theorem number_toInt {j : ℕ} (hj : j < 2048) : (BitVec.ofNat 32 j).toInt = (j : ℤ) := by
  rw [BitVec.toInt_eq_toNat_of_lt] <;> rw [BitVec.toNat_ofNat, Nat.mod_eq_of_lt (by omega)]
  omega

/-- The row a trip reads. -/
theorem read_at {j : ℕ} (hj : j < 2048) (s : State Ideal) (r : Fin 64) (o : Fin 512) :
    b2 j s (ix3 0 r o) = s.main_v8_0 (ix3 (⟨j, hj⟩ : Fin 2048) r o) := by
  have hk : S2048x64x512.Slices ![j, 0, 0] S1x64x512 := ⟨rfl, fun a => by
    match a with
    | ⟨0, _⟩ => exact Nat.succ_le_of_lt hj
    | ⟨1, _⟩ => exact le_rfl
    | ⟨2, _⟩ => exact le_rfl⟩
  unfold b2
  rw [WordCmp.dynamicSlice_eq_extract _ _ _ _ ![j, 0, 0] hk (fun a => by
    match a with
    | ⟨0, _⟩ => exact number_toInt hj
    | ⟨1, _⟩ => rfl
    | ⟨2, _⟩ => rfl)]
  pointwise

/-- The stored states after a trip: the trip's row is the new hidden state, every other row is as before. -/
theorem stored_at {j : ℕ} (hj : j < 2048) (s : State Ideal) (i : Fin 2048) (r : Fin 64) (o : Fin 512) :
    b11 j s (ix3 i r o) = if i.val = j then b7 j s (ix2 r o) else s.main_v8_4 (ix3 i r o) := by
  have hk : S2048x64x512.Slices ![j, 0, 0] S1x64x512 := ⟨rfl, fun a => by
    match a with
    | ⟨0, _⟩ => exact Nat.succ_le_of_lt hj
    | ⟨1, _⟩ => exact le_rfl
    | ⟨2, _⟩ => exact le_rfl⟩
  unfold b11
  rw [WordCmp.dynamicUpdateSlice_eq_update _ _ _ _ ![j, 0, 0] hk (fun a => by
    match a with
    | ⟨0, _⟩ => exact number_toInt hj
    | ⟨1, _⟩ => rfl
    | ⟨2, _⟩ => rfl)]
  unfold updateSlice
  by_cases h : i.val = j
  · rw [if_pos h, dif_pos (fun a => by
      match a with
      | ⟨0, _⟩ => exact ⟨h.ge, Nat.lt_succ_of_le h.le⟩
      | ⟨1, _⟩ => exact ⟨Nat.zero_le _, lt_of_lt_of_eq r.isLt (Nat.zero_add 64).symm⟩
      | ⟨2, _⟩ => exact ⟨Nat.zero_le _, lt_of_lt_of_eq o.isLt (Nat.zero_add 512).symm⟩), ← row_at]
    refine congrArg (b8 j s) (funext fun b => Fin.ext ?_)
    match b with
    | ⟨0, _⟩ => exact (congrArg (· - j) h).trans (Nat.sub_self j)
    | ⟨1, _⟩ => rfl
    | ⟨2, _⟩ => rfl
  · refine (dif_neg fun c => h ?_).trans (if_neg h).symm
    have c0 : j ≤ i.val ∧ i.val < j + 1 := c (0 : Fin 3)
    omega

/-- The projected inputs at an element. -/
theorem inputs_at (x0 : (⟨S2048x64x512, .f32⟩ : BufTy).Contents (Elt Ideal)) (x2 : (⟨S512x512, .f32⟩ : BufTy).Contents (Elt Ideal))
    (x3 x5 : (⟨S512, .f32⟩ : BufTy).Contents (Elt Ideal)) (i : Fin 2048) (r : Fin 64) (o : Fin 512) :
    A_main_v6 x0 x2 x3 x5 (ix3 i r o) = ∑ x : Fin 512, x0 (ix3 i r x) * x2 (ix2 o x) + x3 (ix1 o) + x5 (ix1 o) := by
  pointwise [A_main_v6, A_main_v5, A_main_v4, A_main_v3, A_main_v2, A_main_v1, A_main_v0]

/-- The result at an element. -/
theorem result_at (s : State Ideal) (x6 : (⟨S512x512, .f32⟩ : BufTy).Contents (Elt Ideal)) (x7 : (⟨S512, .f32⟩ : BufTy).Contents (Elt Ideal))
    (i : Fin 2048) (r : Fin 64) (o : Fin 512) :
    R_main_v12 s x6 x7 (ix3 i r o) = ∑ x : Fin 512, s.main_v8_4 (ix3 i r x) * x6 (ix2 o x) + x7 (ix1 o) := by
  pointwise [R_main_v12]

variable (m : (ℓ : Loc nD τ sig) → Buf (Elt Ideal) ℓ) (c : Dev nD)

/-- The network of the arguments on device `c`. -/
def net : Net where
  x := m ((c.tc : Thread nD τ).loc main_arg0)
  h := m ((c.tc : Thread nD τ).loc main_arg1)
  wi := m ((c.tc : Thread nD τ).loc main_arg2)
  bi := m ((c.tc : Thread nD τ).loc main_arg3)
  wh := m ((c.tc : Thread nD τ).loc main_arg4)
  bh := m ((c.tc : Thread nD τ).loc main_arg5)
  wo := m ((c.tc : Thread nD τ).loc main_arg6)
  bo := m ((c.tc : Thread nD τ).loc main_arg7)

/-- What the loop carries before trip `k`: the network's projected inputs and recurrent weights, its hidden state after `k`
    time steps, and the hidden states up to there. -/
structure Reaches (N : Net) (k : ℕ) (s : State Ideal) : Prop where
  inputs : ∀ (i : Fin 2048) r o, s.main_v8_0 (ix3 i r o) = N.proj i.val (ix2 r o)
  weights : s.main_v8_1 = N.wh
  hidden : ∀ r o, s.main_v8_3 (ix2 r o) = N.hid k (ix2 r o)
  stored : ∀ (i : Fin 2048), i.val < k → ∀ r o, s.main_v8_4 (ix3 i r o) = N.hid (i.val + 1) (ix2 r o)

/-- A trip's hidden state is the network's next. -/
theorem Reaches.next {N : Net} {k : ℕ} {s : State Ideal} (h : Reaches N k s) (hk : k < 2048) (r : Fin 64) (o : Fin 512) :
    b7 k s (ix2 r o) = N.hid (k + 1) (ix2 r o) := by
  rw [hidden_at, read_at hk, h.inputs, h.weights]
  exact congrArg Ideal.tanh (congrArg (_ + ·) (Finset.sum_congr rfl fun x _ => congrArg (· * _) (h.hidden r x)))

/-- The loop goes through the network. -/
theorem reaches : ∀ k ≤ 2048, Reaches (net m c) k (state m c k)
  | 0, _ =>
    { inputs := fun i r o => by
        refine (inputs_at _ _ _ _ i r o).trans ?_
        unfold Net.proj
        rw [show (Fin.ofNat 2048 i.val) = i from Fin.ext (Nat.mod_eq_of_lt i.isLt)]
        rfl
      weights := rfl
      hidden := fun _ _ => rfl
      stored := fun i hi => absurd hi (Nat.not_lt_zero _) }
  | k + 1, hk =>
    have h := reaches k (by omega)
    { inputs := h.inputs
      weights := h.weights
      hidden := h.next (by omega)
      stored := fun i hi r o => by
        refine (stored_at (by omega) (state m c k) i r o).trans ?_
        by_cases e : i.val = k
        · rw [if_pos e, h.next (by omega), e]
        · rw [if_neg e, h.stored i (by omega)] }

/-- The reference's result is the network's outputs. -/
theorem result_eq (i : Fin 2048) (r : Fin 64) (o : Fin 512) :
    R_main_v12 (state m c 2048) (m ((c.tc : Thread nD τ).loc main_arg6)) (m ((c.tc : Thread nD τ).loc main_arg7)) (ix3 i r o)
      = (net m c).out i.val (ix2 r o) := by
  rw [result_at]
  refine congrArg (· + _) (Finset.sum_congr rfl fun x _ => congrArg (· * _) ?_)
  exact (reaches m c 2048 le_rfl).stored i i.isLt r x

end Cert.Proof.OnReference

end
-- ==== Proof.Algebraic.lean ====
/-
  The idealized program and the reference end with equal results: both at the outputs of one network.
-/
module

public import proofs.«01_k».proof.Defs
public import proofs.«01_k».proof.Proof.Value
public import proofs.«01_k».proof.Proof.RefValue

@[expose] public section

noncomputable section

namespace Cert.Proof

open Idealize.ShloMosaic Idealize.ShloMosaic.TcCoe Idealize.SL.Sem

/-- From memories that agree on the arguments, the two programs' networks are one. -/
theorem nets_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : (OnReference.net m' c).x = (OnIdeal.net m c).x) (h1 : (OnReference.net m' c).h = (OnIdeal.net m c).h)
    (h2 : (OnReference.net m' c).wi = (OnIdeal.net m c).wi) (h3 : (OnReference.net m' c).bi = (OnIdeal.net m c).bi)
    (h4 : (OnReference.net m' c).wh = (OnIdeal.net m c).wh) (h5 : (OnReference.net m' c).bh = (OnIdeal.net m c).bh)
    (h6 : (OnReference.net m' c).wo = (OnIdeal.net m c).wo) (h7 : (OnReference.net m' c).bo = (OnIdeal.net m c).bo) :
    OnReference.net m' c = OnIdeal.net m c := by
  show (⟨_, _, _, _, _, _, _, _⟩ : Net) = ⟨_, _, _, _, _, _, _, _⟩
  exact (Net.mk.injEq ..).mpr ⟨h0, h1, h2, h3, h4, h5, h6, h7⟩

/-- The idealized program and the reference end with equal results, their arguments unchanged. -/
theorem value : Cert.algebraic_KernelIdeal_ReferenceIdeal (hKernelIdeal := Cert.KernelIdeal.Gen.facts)
    (hReferenceIdeal := Cert.ReferenceIdeal.Gen.facts) := by
  intro m g m' g' _ hagree
  refine ⟨fun c => OnIdeal.outputs m c, OnIdeal.run_value m g, ?_⟩
  refine (θ_run _ _ _).mono (fun _ h c => ⟨(h c).1.trans ?_, (h c).2⟩) (OnReference.run m' g')
  obtain ⟨h0, h1, h2, h3, h4, h5, h6, h7⟩ := hagree c
  have e := nets_eq m m' c h0 h1 h2 h3 h4 h5 h6 h7
  funext j
  obtain ⟨i, r, o, rfl⟩ : ∃ (i : Fin 2048) (r : Fin 64) (o : Fin 512), j = ix3 i r o := ⟨j 0, j 1, j 2, eq_ix3 j⟩
  rw [OnReference.result_eq, e]
  rfl

end Cert.Proof

end
-- ==== Proof.lean ====
/-
  The certificate: each part is proved in the modules under Proof/, and is put in its place here.
-/
module

public import proofs.«01_k».proof.Defs
public import proofs.«01_k».proof.Proof.Frames
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
